-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_softmax_defined_KernelIdeal [hPre_softmax_defined_KernelIdeal : Cert.Pre_softmax_defined_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_softmax_defined_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_softmax_defined_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_softmax_defined_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_softmax_defined_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_softmax_defined_ReferenceIdeal [hPre_softmax_defined_ReferenceIdeal : Cert.Pre_softmax_defined_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_softmax_defined_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_softmax_defined_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_softmax_defined_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_softmax_defined_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_softmax_defined_KernelIdeal [hKernelIdeal : Cert.KernelIdeal.Facts] [hPre_softmax_defined_KernelIdeal : Cert.Pre_softmax_defined_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_softmax_defined_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_softmax_defined_ReferenceIdeal [hReferenceIdeal : Cert.ReferenceIdeal.Facts] [hPre_softmax_defined_ReferenceIdeal : Cert.Pre_softmax_defined_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_softmax_defined_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_softmax_defined_KernelIdeal [hKernelIdeal : Cert.KernelIdeal.Facts] [hReferenceIdeal : Cert.ReferenceIdeal.Facts] [hPre_softmax_defined_KernelIdeal : Cert.Pre_softmax_defined_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_softmax_defined_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_softmax_defined_KernelIdeal : Cert.Pre_softmax_defined_KernelIdeal.Facts) (hPre_softmax_defined_ReferenceIdeal : Cert.Pre_softmax_defined_ReferenceIdeal.Facts),
    quiescent_Kernel (hKernel := hKernel)
    ∧ quiescent_KernelIdeal (hKernelIdeal := hKernelIdeal)
    ∧ quiescent_KernelIdeal_pre_softmax_defined_KernelIdeal (hKernelIdeal := hKernelIdeal) (hPre_softmax_defined_KernelIdeal := hPre_softmax_defined_KernelIdeal)
    ∧ quiescent_ReferenceIdeal (hReferenceIdeal := hReferenceIdeal)
    ∧ quiescent_ReferenceIdeal_pre_softmax_defined_ReferenceIdeal (hReferenceIdeal := hReferenceIdeal) (hPre_softmax_defined_ReferenceIdeal := hPre_softmax_defined_ReferenceIdeal)
    ∧ preserves_Kernel_KernelIdeal
    ∧ algebraic_KernelIdeal_ReferenceIdeal_pre_softmax_defined_KernelIdeal (hKernelIdeal := hKernelIdeal) (hReferenceIdeal := hReferenceIdeal) (hPre_softmax_defined_KernelIdeal := hPre_softmax_defined_KernelIdeal)
-- ==== Pre_softmax_defined_KernelIdeal.lean ====
abbrev S16x1024 : Shape := ⟨2, ![16, 1024]⟩
abbrev S2048x1024 : Shape := ⟨2, ![2048, 1024]⟩
abbrev S16x128 : Shape := ⟨2, ![16, 128]⟩
abbrev S16x1 : Shape := ⟨2, ![16, 1]⟩
abbrev S_ : Shape := ⟨0, ![]⟩

class Facts : Prop where
  bcast_S_S16x1024 : S_.BroadcastsInDim S16x1024 (![] : Fin 0 → Fin S16x1024.rank)
  bcast_S_S2048x1024 : S_.BroadcastsInDim S2048x1024 (![] : Fin 0 → Fin S2048x1024.rank)
  bcast_S_S16x1 : S_.BroadcastsInDim S16x1 (![] : Fin 0 → Fin S16x1.rank)
  bcast_S16x1_S16x128_0_1 : S16x1.BroadcastsInDim S16x128 (![0, 1] : Fin 2 → Fin S16x128.rank)
  bcast_S_S16x128 : S_.BroadcastsInDim S16x128 (![] : Fin 0 → Fin S16x128.rank)

variable [Facts]

def fn {F : FTy → Type} [FloatOps F] (main_arg0 : FVec F S16x1024 .f32) (main_arg1 : FVec F S2048x1024 .f32) (main_arg2 : FVec F S2048x1024 .f32) (main_arg3 : IVec S16x128 32) (main_arg4 : IVec S16x1 32) : IVec S16x1024 1 × IVec S2048x1024 1 × IVec S16x1 1 × IVec S16x128 1 :=
  let main_v0 : IVec S16x128 32 := iotaInDim S16x128 32 1
  let main_v1 : FVec F S16x1024 .f32 := Host.absf main_arg0
  let main_cst : FVec F S_ .f32 := constant S_ .f32 0x7F800000#32
  let main_v2 : FVec F S16x1024 .f32 := broadcastInDim S16x1024 ![] bcast_S_S16x1024 main_cst
  let main_v3 : IVec S16x1024 1 := cmpf .olt main_v1 main_v2
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c : IVec S_ 32 := constantI S_ 32 1#32
  let main_v7 : IVec S16x1 32 := broadcastInDim S16x1 ![] bcast_S_S16x1 main_c
  let main_v8 : IVec S16x1 1 := cmpi .sge main_arg4 main_v7
  let main_v9 : IVec S16x128 32 := broadcastInDim S16x128 ![0, 1] bcast_S16x1_S16x128_0_1 main_arg4
  let main_v10 : IVec S16x128 1 := cmpi .sge main_v0 main_v9
  let main_c_1 : IVec S_ 32 := constantI S_ 32 0#32
  let main_v11 : IVec S16x128 32 := broadcastInDim S16x128 ![] bcast_S_S16x128 main_c_1
  let main_v12 : IVec S16x128 1 := cmpi .sge main_arg3 main_v11
  let main_c_2 : IVec S_ 32 := constantI S_ 32 512#32
  let main_v13 : IVec S16x128 32 := broadcastInDim S16x128 ![] bcast_S_S16x128 main_c_2
  let main_v14 : IVec S16x128 1 := cmpi .slt main_arg3 main_v13
  let main_v15 : IVec S16x128 1 := andi main_v12 main_v14
  let main_v16 : IVec S16x128 1 := ori main_v10 main_v15
  (main_v3, main_v6, main_v8, main_v16)
-- ==== Pre_softmax_defined_ReferenceIdeal.lean ====
abbrev S16x1024 : Shape := ⟨2, ![16, 1024]⟩
abbrev S8192x1024 : Shape := ⟨2, ![8192, 1024]⟩
abbrev S16x128 : Shape := ⟨2, ![16, 128]⟩
abbrev S16x1 : Shape := ⟨2, ![16, 1]⟩
abbrev S_ : Shape := ⟨0, ![]⟩

class Facts : Prop where
  bcast_S_S16x1024 : S_.BroadcastsInDim S16x1024 (![] : Fin 0 → Fin S16x1024.rank)
  bcast_S_S8192x1024 : S_.BroadcastsInDim S8192x1024 (![] : Fin 0 → Fin S8192x1024.rank)
  bcast_S_S16x1 : S_.BroadcastsInDim S16x1 (![] : Fin 0 → Fin S16x1.rank)
  bcast_S16x1_S16x128_0_1 : S16x1.BroadcastsInDim S16x128 (![0, 1] : Fin 2 → Fin S16x128.rank)
  bcast_S_S16x128 : S_.BroadcastsInDim S16x128 (![] : Fin 0 → Fin S16x128.rank)

variable [Facts]

def fn {F : FTy → Type} [FloatOps F] (main_arg0 : FVec F S16x1024 .f32) (main_arg1 : FVec F S8192x1024 .f32) (main_arg2 : FVec F S8192x1024 .f32) (main_arg3 : IVec S16x128 32) (main_arg4 : IVec S16x1 32) : IVec S16x1024 1 × IVec S8192x1024 1 × IVec S16x1 1 × IVec S16x128 1 :=
  let main_v0 : IVec S16x128 32 := iotaInDim S16x128 32 1
  let main_v1 : FVec F S16x1024 .f32 := Host.absf main_arg0
  let main_cst : FVec F S_ .f32 := constant S_ .f32 0x7F800000#32
  let main_v2 : FVec F S16x1024 .f32 := broadcastInDim S16x1024 ![] bcast_S_S16x1024 main_cst
  let main_v3 : IVec S16x1024 1 := cmpf .olt main_v1 main_v2
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c : IVec S_ 32 := constantI S_ 32 1#32
  let main_v7 : IVec S16x1 32 := broadcastInDim S16x1 ![] bcast_S_S16x1 main_c
  let main_v8 : IVec S16x1 1 := cmpi .sge main_arg4 main_v7
  let main_v9 : IVec S16x128 32 := broadcastInDim S16x128 ![0, 1] bcast_S16x1_S16x128_0_1 main_arg4
  let main_v10 : IVec S16x128 1 := cmpi .sge main_v0 main_v9
  let main_c_1 : IVec S_ 32 := constantI S_ 32 0#32
  let main_v11 : IVec S16x128 32 := broadcastInDim S16x128 ![] bcast_S_S16x128 main_c_1
  let main_v12 : IVec S16x128 1 := cmpi .sge main_arg3 main_v11
  let main_c_2 : IVec S_ 32 := constantI S_ 32 512#32
  let main_v13 : IVec S16x128 32 := broadcastInDim S16x128 ![] bcast_S_S16x128 main_c_2
  let main_v14 : IVec S16x128 1 := cmpi .slt main_arg3 main_v13
  let main_v15 : IVec S16x128 1 := andi main_v12 main_v14
  let main_v16 : IVec S16x128 1 := ori main_v10 main_v15
  (main_v3, main_v6, main_v8, main_v16)
-- ==== Kernel.lean ====
abbrev S16x1024 : Shape := ⟨2, ![16, 1024]⟩
abbrev S2048x1024 : Shape := ⟨2, ![2048, 1024]⟩
abbrev S16x128 : Shape := ⟨2, ![16, 128]⟩
abbrev S16x1 : Shape := ⟨2, ![16, 1]⟩
abbrev S16x1x16x64 : Shape := ⟨4, ![16, 1, 16, 64]⟩
abbrev S4x16x16x64 : Shape := ⟨4, ![4, 16, 16, 64]⟩
abbrev S4x2x16x16x1 : Shape := ⟨5, ![4, 2, 16, 16, 1]⟩
abbrev S4 : Shape := ⟨1, ![4]⟩
abbrev S16x128x128 : Shape := ⟨3, ![16, 128, 128]⟩
abbrev S16x1x128 : Shape := ⟨3, ![16, 1, 128]⟩
abbrev S16x1x1 : Shape := ⟨3, ![16, 1, 1]⟩
abbrev S128x2048 : Shape := ⟨2, ![128, 2048]⟩
abbrev S16x2048 : Shape := ⟨2, ![16, 2048]⟩
abbrev S16x64 : Shape := ⟨2, ![16, 64]⟩
abbrev S2048x64 : Shape := ⟨2, ![2048, 64]⟩
abbrev S16 : Shape := ⟨1, ![16]⟩
abbrev S1x1x16x64 : Shape := ⟨4, ![1, 1, 16, 64]⟩
abbrev S1x1x1x16x1 : Shape := ⟨5, ![1, 1, 1, 16, 1]⟩
abbrev S_ : Shape := ⟨0, ![]⟩
abbrev S1 : Shape := ⟨1, ![1]⟩
abbrev S1x16x16x64 : Shape := ⟨4, ![1, 16, 16, 64]⟩
abbrev S16x16x64 : Shape := ⟨3, ![16, 16, 64]⟩
abbrev S1x2x16x16x1 : Shape := ⟨5, ![1, 2, 16, 16, 1]⟩
abbrev S2x16x16x1 : Shape := ⟨4, ![2, 16, 16, 1]⟩
abbrev S4x1x16x16x1 : Shape := ⟨5, ![4, 1, 16, 16, 1]⟩
abbrev S4x16x16x1 : Shape := ⟨4, ![4, 16, 16, 1]⟩
abbrev S16x16x1 : Shape := ⟨3, ![16, 16, 1]⟩
abbrev S1x16x16x1 : Shape := ⟨4, ![1, 16, 16, 1]⟩

abbrev nBuf : Space → Nat
  | .hbm => 6
  | .vmem => 8
  | .smem => 0
  | _ => 0

abbrev bufTy : (tb : Table) → Fin (tcTables nBuf tb) → BufTy
  | .hbm, ⟨0, _⟩ => ⟨S16x1024, .f32⟩
  | .hbm, ⟨1, _⟩ => ⟨S2048x1024, .f32⟩
  | .hbm, ⟨2, _⟩ => ⟨S2048x1024, .f32⟩
  | .hbm, ⟨3, _⟩ => ⟨S16x128, .i32⟩
  | .hbm, ⟨4, _⟩ => ⟨S16x1, .i32⟩
  | .hbm, ⟨5, _⟩ => ⟨S16x1x16x64, .f32⟩
  | .local _ .vmem, ⟨0, _⟩ => ⟨S16x1024, .f32⟩
  | .local _ .vmem, ⟨1, _⟩ => ⟨S2048x1024, .f32⟩
  | .local _ .vmem, ⟨2, _⟩ => ⟨S2048x1024, .f32⟩
  | .local _ .vmem, ⟨3, _⟩ => ⟨S16x128, .i32⟩
  | .local _ .vmem, ⟨4, _⟩ => ⟨S16x1, .i32⟩
  | .local _ .vmem, ⟨5, _⟩ => ⟨S16x1x16x64, .f32⟩
  | .local _ .vmem, ⟨6, _⟩ => ⟨S4x16x16x64, .f32⟩
  | .local _ .vmem, ⟨7, _⟩ => ⟨S4x2x16x16x1, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_405 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_396 : BitVec 32 := 1#32
  let v519 : BitVec 32 := Scalar.addi v2 c1_i32_396
  let c4_i32_397 : BitVec 32 := 4#32
  let c0_i32_398 : BitVec 32 := 0#32
  let v520 : BitVec 1 := Scalar.cmpi .eq c4_i32_397 c0_i32_398
  let c1_i32_399 : BitVec 32 := 1#32
  let v521 : BitVec 32 := Scalar.select v520 c1_i32_399 c4_i32_397
  let v522 : BitVec 32 := Scalar.remsi v519 v521
  let c0_i32_401 : BitVec 32 := 0#32
  let v524 : BitVec 1 := Scalar.cmpi .slt v522 c0_i32_401
  let c0_i32_402 : BitVec 32 := 0#32
  let v525 : BitVec 1 := Scalar.cmpi .slt v521 c0_i32_402
  let v526 : BitVec 1 := Scalar.xori v524 v525
  let c0_i32_400 : BitVec 32 := 0#32
  let v523 : BitVec 1 := Scalar.cmpi .ne v522 c0_i32_400
  let v527 : BitVec 1 := Scalar.andi v526 v523
  let v528 : BitVec 32 := Scalar.addi v522 v521
  let v529 : BitVec 32 := Scalar.select v527 v528 v522
  let c1_i32_404 : BitVec 32 := 1#32
  let v530 : BitVec 32 := Scalar.muli v529 c1_i32_404
  let v531 : BitVec 32 := Scalar.addi c0_i32_405 v530
  v531.toNat
def k0_dev2 (d0 : Dev nD) : Nat :=
  let c0_i32_414 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v532 : BitVec 32 := Scalar.addi v2 c2_i32
  let c4_i32_406 : BitVec 32 := 4#32
  let c0_i32_407 : BitVec 32 := 0#32
  let v533 : BitVec 1 := Scalar.cmpi .eq c4_i32_406 c0_i32_407
  let c1_i32_408 : BitVec 32 := 1#32
  let v534 : BitVec 32 := Scalar.select v533 c1_i32_408 c4_i32_406
  let v535 : BitVec 32 := Scalar.remsi v532 v534
  let c0_i32_410 : BitVec 32 := 0#32
  let v537 : BitVec 1 := Scalar.cmpi .slt v535 c0_i32_410
  let c0_i32_411 : BitVec 32 := 0#32
  let v538 : BitVec 1 := Scalar.cmpi .slt v534 c0_i32_411
  let v539 : BitVec 1 := Scalar.xori v537 v538
  let c0_i32_409 : BitVec 32 := 0#32
  let v536 : BitVec 1 := Scalar.cmpi .ne v535 c0_i32_409
  let v540 : BitVec 1 := Scalar.andi v539 v536
  let v541 : BitVec 32 := Scalar.addi v535 v534
  let v542 : BitVec 32 := Scalar.select v540 v541 v535
  let c1_i32_413 : BitVec 32 := 1#32
  let v543 : BitVec 32 := Scalar.muli v542 c1_i32_413
  let v544 : BitVec 32 := Scalar.addi c0_i32_414 v543
  v544.toNat
def k0_dev3 (d0 : Dev nD) : Nat :=
  let c0_i32_423 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v545 : BitVec 32 := Scalar.addi v2 c3_i32
  let c4_i32_415 : BitVec 32 := 4#32
  let c0_i32_416 : BitVec 32 := 0#32
  let v546 : BitVec 1 := Scalar.cmpi .eq c4_i32_415 c0_i32_416
  let c1_i32_417 : BitVec 32 := 1#32
  let v547 : BitVec 32 := Scalar.select v546 c1_i32_417 c4_i32_415
  let v548 : BitVec 32 := Scalar.remsi v545 v547
  let c0_i32_419 : BitVec 32 := 0#32
  let v550 : BitVec 1 := Scalar.cmpi .slt v548 c0_i32_419
  let c0_i32_420 : BitVec 32 := 0#32
  let v551 : BitVec 1 := Scalar.cmpi .slt v547 c0_i32_420
  let v552 : BitVec 1 := Scalar.xori v550 v551
  let c0_i32_418 : BitVec 32 := 0#32
  let v549 : BitVec 1 := Scalar.cmpi .ne v548 c0_i32_418
  let v553 : BitVec 1 := Scalar.andi v552 v549
  let v554 : BitVec 32 := Scalar.addi v548 v547
  let v555 : BitVec 32 := Scalar.select v553 v554 v548
  let c1_i32_422 : BitVec 32 := 1#32
  let v556 : BitVec 32 := Scalar.muli v555 c1_i32_422
  let v557 : BitVec 32 := Scalar.addi c0_i32_423 v556
  v557.toNat
def k0_dev4 (d0 : Dev nD) : Nat :=
  let c0_i32_437 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_425 : BitVec 32 := 1#32
  let v558 : BitVec 32 := Scalar.addi v2 c1_i32_425
  let c4_i32_426 : BitVec 32 := 4#32
  let c0_i32_427 : BitVec 32 := 0#32
  let v559 : BitVec 1 := Scalar.cmpi .eq c4_i32_426 c0_i32_427
  let c1_i32_428 : BitVec 32 := 1#32
  let v560 : BitVec 32 := Scalar.select v559 c1_i32_428 c4_i32_426
  let v561 : BitVec 32 := Scalar.remsi v558 v560
  let c0_i32_430 : BitVec 32 := 0#32
  let v563 : BitVec 1 := Scalar.cmpi .slt v561 c0_i32_430
  let c0_i32_431 : BitVec 32 := 0#32
  let v564 : BitVec 1 := Scalar.cmpi .slt v560 c0_i32_431
  let v565 : BitVec 1 := Scalar.xori v563 v564
  let c0_i32_429 : BitVec 32 := 0#32
  let v562 : BitVec 1 := Scalar.cmpi .ne v561 c0_i32_429
  let v566 : BitVec 1 := Scalar.andi v565 v562
  let v567 : BitVec 32 := Scalar.addi v561 v560
  let v568 : BitVec 32 := Scalar.select v566 v567 v561
  let c1_i32_436 : BitVec 32 := 1#32
  let v569 : BitVec 32 := Scalar.muli v568 c1_i32_436
  let v570 : BitVec 32 := Scalar.addi c0_i32_437 v569
  v570.toNat
def k0_dev5 (d0 : Dev nD) : Nat :=
  let c0_i32_449 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_425 : BitVec 32 := 1#32
  let v558 : BitVec 32 := Scalar.addi v2 c1_i32_425
  let c4_i32_426 : BitVec 32 := 4#32
  let c0_i32_427 : BitVec 32 := 0#32
  let v559 : BitVec 1 := Scalar.cmpi .eq c4_i32_426 c0_i32_427
  let c1_i32_428 : BitVec 32 := 1#32
  let v560 : BitVec 32 := Scalar.select v559 c1_i32_428 c4_i32_426
  let v561 : BitVec 32 := Scalar.remsi v558 v560
  let c0_i32_430 : BitVec 32 := 0#32
  let v563 : BitVec 1 := Scalar.cmpi .slt v561 c0_i32_430
  let c0_i32_431 : BitVec 32 := 0#32
  let v564 : BitVec 1 := Scalar.cmpi .slt v560 c0_i32_431
  let v565 : BitVec 1 := Scalar.xori v563 v564
  let c0_i32_429 : BitVec 32 := 0#32
  let v562 : BitVec 1 := Scalar.cmpi .ne v561 c0_i32_429
  let v566 : BitVec 1 := Scalar.andi v565 v562
  let v567 : BitVec 32 := Scalar.addi v561 v560
  let v568 : BitVec 32 := Scalar.select v566 v567 v561
  let c1_i32_448 : BitVec 32 := 1#32
  let v579 : BitVec 32 := Scalar.muli v568 c1_i32_448
  let v580 : BitVec 32 := Scalar.addi c0_i32_449 v579
  v580.toNat
def k0_dev6 (d0 : Dev nD) : Nat :=
  let c0_i32_470 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_458 : BitVec 32 := 2#32
  let v589 : BitVec 32 := Scalar.addi v2 c2_i32_458
  let c4_i32_459 : BitVec 32 := 4#32
  let c0_i32_460 : BitVec 32 := 0#32
  let v590 : BitVec 1 := Scalar.cmpi .eq c4_i32_459 c0_i32_460
  let c1_i32_461 : BitVec 32 := 1#32
  let v591 : BitVec 32 := Scalar.select v590 c1_i32_461 c4_i32_459
  let v592 : BitVec 32 := Scalar.remsi v589 v591
  let c0_i32_463 : BitVec 32 := 0#32
  let v594 : BitVec 1 := Scalar.cmpi .slt v592 c0_i32_463
  let c0_i32_464 : BitVec 32 := 0#32
  let v595 : BitVec 1 := Scalar.cmpi .slt v591 c0_i32_464
  let v596 : BitVec 1 := Scalar.xori v594 v595
  let c0_i32_462 : BitVec 32 := 0#32
  let v593 : BitVec 1 := Scalar.cmpi .ne v592 c0_i32_462
  let v597 : BitVec 1 := Scalar.andi v596 v593
  let v598 : BitVec 32 := Scalar.addi v592 v591
  let v599 : BitVec 32 := Scalar.select v597 v598 v592
  let c1_i32_469 : BitVec 32 := 1#32
  let v600 : BitVec 32 := Scalar.muli v599 c1_i32_469
  let v601 : BitVec 32 := Scalar.addi c0_i32_470 v600
  v601.toNat
def k0_dev7 (d0 : Dev nD) : Nat :=
  let c0_i32_482 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_458 : BitVec 32 := 2#32
  let v589 : BitVec 32 := Scalar.addi v2 c2_i32_458
  let c4_i32_459 : BitVec 32 := 4#32
  let c0_i32_460 : BitVec 32 := 0#32
  let v590 : BitVec 1 := Scalar.cmpi .eq c4_i32_459 c0_i32_460
  let c1_i32_461 : BitVec 32 := 1#32
  let v591 : BitVec 32 := Scalar.select v590 c1_i32_461 c4_i32_459
  let v592 : BitVec 32 := Scalar.remsi v589 v591
  let c0_i32_463 : BitVec 32 := 0#32
  let v594 : BitVec 1 := Scalar.cmpi .slt v592 c0_i32_463
  let c0_i32_464 : BitVec 32 := 0#32
  let v595 : BitVec 1 := Scalar.cmpi .slt v591 c0_i32_464
  let v596 : BitVec 1 := Scalar.xori v594 v595
  let c0_i32_462 : BitVec 32 := 0#32
  let v593 : BitVec 1 := Scalar.cmpi .ne v592 c0_i32_462
  let v597 : BitVec 1 := Scalar.andi v596 v593
  let v598 : BitVec 32 := Scalar.addi v592 v591
  let v599 : BitVec 32 := Scalar.select v597 v598 v592
  let c1_i32_481 : BitVec 32 := 1#32
  let v610 : BitVec 32 := Scalar.muli v599 c1_i32_481
  let v611 : BitVec 32 := Scalar.addi c0_i32_482 v610
  v611.toNat
def k0_dev8 (d0 : Dev nD) : Nat :=
  let c0_i32_503 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_491 : BitVec 32 := 3#32
  let v620 : BitVec 32 := Scalar.addi v2 c3_i32_491
  let c4_i32_492 : BitVec 32 := 4#32
  let c0_i32_493 : BitVec 32 := 0#32
  let v621 : BitVec 1 := Scalar.cmpi .eq c4_i32_492 c0_i32_493
  let c1_i32_494 : BitVec 32 := 1#32
  let v622 : BitVec 32 := Scalar.select v621 c1_i32_494 c4_i32_492
  let v623 : BitVec 32 := Scalar.remsi v620 v622
  let c0_i32_496 : BitVec 32 := 0#32
  let v625 : BitVec 1 := Scalar.cmpi .slt v623 c0_i32_496
  let c0_i32_497 : BitVec 32 := 0#32
  let v626 : BitVec 1 := Scalar.cmpi .slt v622 c0_i32_497
  let v627 : BitVec 1 := Scalar.xori v625 v626
  let c0_i32_495 : BitVec 32 := 0#32
  let v624 : BitVec 1 := Scalar.cmpi .ne v623 c0_i32_495
  let v628 : BitVec 1 := Scalar.andi v627 v624
  let v629 : BitVec 32 := Scalar.addi v623 v622
  let v630 : BitVec 32 := Scalar.select v628 v629 v623
  let c1_i32_502 : BitVec 32 := 1#32
  let v631 : BitVec 32 := Scalar.muli v630 c1_i32_502
  let v632 : BitVec 32 := Scalar.addi c0_i32_503 v631
  v632.toNat
def k0_dev9 (d0 : Dev nD) : Nat :=
  let c0_i32_515 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_491 : BitVec 32 := 3#32
  let v620 : BitVec 32 := Scalar.addi v2 c3_i32_491
  let c4_i32_492 : BitVec 32 := 4#32
  let c0_i32_493 : BitVec 32 := 0#32
  let v621 : BitVec 1 := Scalar.cmpi .eq c4_i32_492 c0_i32_493
  let c1_i32_494 : BitVec 32 := 1#32
  let v622 : BitVec 32 := Scalar.select v621 c1_i32_494 c4_i32_492
  let v623 : BitVec 32 := Scalar.remsi v620 v622
  let c0_i32_496 : BitVec 32 := 0#32
  let v625 : BitVec 1 := Scalar.cmpi .slt v623 c0_i32_496
  let c0_i32_497 : BitVec 32 := 0#32
  let v626 : BitVec 1 := Scalar.cmpi .slt v622 c0_i32_497
  let v627 : BitVec 1 := Scalar.xori v625 v626
  let c0_i32_495 : BitVec 32 := 0#32
  let v624 : BitVec 1 := Scalar.cmpi .ne v623 c0_i32_495
  let v628 : BitVec 1 := Scalar.andi v627 v624
  let v629 : BitVec 32 := Scalar.addi v623 v622
  let v630 : BitVec 32 := Scalar.select v628 v629 v623
  let c1_i32_514 : BitVec 32 := 1#32
  let v641 : BitVec 32 := Scalar.muli v630 c1_i32_514
  let v642 : BitVec 32 := Scalar.addi c0_i32_515 v641
  v642.toNat
abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1x16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S16x1024 : Shape := ⟨2, ![16, 1024]⟩
abbrev S8192x1024 : Shape := ⟨2, ![8192, 1024]⟩
abbrev S16x128 : Shape := ⟨2, ![16, 128]⟩
abbrev S16x1 : Shape := ⟨2, ![16, 1]⟩
abbrev S16x16x64 : Shape := ⟨3, ![16, 16, 64]⟩
abbrev S512x16x16x64 : Shape := ⟨4, ![512, 16, 16, 64]⟩
abbrev S16x128x16 : Shape := ⟨3, ![16, 128, 16]⟩
abbrev S16x1x1 : Shape := ⟨3, ![16, 1, 1]⟩
abbrev S16x1x2048 : Shape := ⟨3, ![16, 1, 2048]⟩
abbrev S_ : Shape := ⟨0, ![]⟩
abbrev S16x128x1 : Shape := ⟨3, ![16, 128, 1]⟩
abbrev S16x128x16x16x64 : Shape := ⟨5, ![16, 128, 16, 16, 64]⟩
abbrev S16x2048x16x64 : Shape := ⟨4, ![16, 2048, 16, 64]⟩
abbrev S16x16x2048 : Shape := ⟨3, ![16, 16, 2048]⟩
abbrev S16x16 : Shape := ⟨2, ![16, 16]⟩
abbrev S16x16x1 : Shape := ⟨3, ![16, 16, 1]⟩
abbrev S16x1x16x64 : Shape := ⟨4, ![16, 1, 16, 64]⟩

abbrev nBuf : Space → Nat
  | .hbm => 55
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S8192x1024, .f32⟩
  | .hbm, ⟨2, _⟩ => ⟨S8192x1024, .f32⟩
  | .hbm, ⟨3, _⟩ => ⟨S16x128, .i32⟩
  | .hbm, ⟨4, _⟩ => ⟨S16x1, .i32⟩
  | .hbm, ⟨5, _⟩ => ⟨S16x16x64, .f32⟩
  | .hbm, ⟨6, _⟩ => ⟨S512x16x16x64, .f32⟩
  | .hbm, ⟨7, _⟩ => ⟨S512x16x16x64, .f32⟩
  | .hbm, ⟨8, _⟩ => ⟨S16x128x16, .i32⟩
  | .hbm, ⟨9, _⟩ => ⟨S16x1x1, .i32⟩
  | .hbm, ⟨10, _⟩ => ⟨S16x128x16, .i32⟩
  | .hbm, ⟨11, _⟩ => ⟨S16x128x16, .i1⟩
  | .hbm, ⟨12, _⟩ => ⟨S16x1x2048, .i1⟩
  | .hbm, ⟨13, _⟩ => ⟨S_, .i32⟩
  | .hbm, ⟨14, _⟩ => ⟨S16x128, .i32⟩
  | .hbm, ⟨15, _⟩ => ⟨S16x128, .i1⟩
  | .hbm, ⟨16, _⟩ => ⟨S_, .i32⟩
  | .hbm, ⟨17, _⟩ => ⟨S16x128, .i32⟩
  | .hbm, ⟨18, _⟩ => ⟨S16x128, .i32⟩
  | .hbm, ⟨19, _⟩ => ⟨S16x128, .i32⟩
  | .hbm, ⟨20, _⟩ => ⟨S16x128x1, .i32⟩
  | .hbm, ⟨21, _⟩ => ⟨S16x128x16x16x64, .f32⟩
  | .hbm, ⟨22, _⟩ => ⟨S16x2048x16x64, .f32⟩
  | .hbm, ⟨23, _⟩ => ⟨S_, .i32⟩
  | .hbm, ⟨24, _⟩ => ⟨S16x128, .i32⟩
  | .hbm, ⟨25, _⟩ => ⟨S16x128, .i1⟩
  | .hbm, ⟨26, _⟩ => ⟨S_, .i32⟩
  | .hbm, ⟨27, _⟩ => ⟨S16x128, .i32⟩
  | .hbm, ⟨28, _⟩ => ⟨S16x128, .i32⟩
  | .hbm, ⟨29, _⟩ => ⟨S16x128, .i32⟩
  | .hbm, ⟨30, _⟩ => ⟨S16x128x1, .i32⟩
  | .hbm, ⟨31, _⟩ => ⟨S16x128x16x16x64, .f32⟩
  | .hbm, ⟨32, _⟩ => ⟨S16x2048x16x64, .f32⟩
  | .hbm, ⟨33, _⟩ => ⟨S16x16x2048, .f32⟩
  | .hbm, ⟨34, _⟩ => ⟨S_, .f32⟩
  | .hbm, ⟨35, _⟩ => ⟨S16x16x2048, .f32⟩
  | .hbm, ⟨36, _⟩ => ⟨S16x16x2048, .f32⟩
  | .hbm, ⟨37, _⟩ => ⟨S_, .f32⟩
  | .hbm, ⟨38, _⟩ => ⟨S_, .f32⟩
  | .hbm, ⟨39, _⟩ => ⟨S16x16x2048, .i1⟩
  | .hbm, ⟨40, _⟩ => ⟨S16x16x2048, .f32⟩
  | .hbm, ⟨41, _⟩ => ⟨S16x16x2048, .f32⟩
  | .hbm, ⟨42, _⟩ => ⟨S_, .f32⟩
  | .hbm, ⟨43, _⟩ => ⟨S16x16, .f32⟩
  | .hbm, ⟨44, _⟩ => ⟨S16x16x1, .f32⟩
  | .hbm, ⟨45, _⟩ => ⟨S16x16x2048, .f32⟩
  | .hbm, ⟨46, _⟩ => ⟨S16x16x2048, .f32⟩
  | .hbm, ⟨47, _⟩ => ⟨S16x16x2048, .f32⟩
  | .hbm, ⟨48, _⟩ => ⟨S_, .f32⟩
  | .hbm, ⟨49, _⟩ => ⟨S16x16, .f32⟩
  | .hbm, ⟨50, _⟩ => ⟨S16x16x1, .f32⟩
  | .hbm, ⟨51, _⟩ => ⟨S16x16x2048, .f32⟩
  | .hbm, ⟨52, _⟩ => ⟨S16x16x2048, .f32⟩
  | .hbm, ⟨53, _⟩ => ⟨S16x16x64, .f32⟩
  | .hbm, ⟨54, _⟩ => ⟨S16x1x16x64, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Proof.Steps.lean ====
/- The kernel function written over: the sixteen heads as one step repeated, then the handshake, the
   copies to the three other devices, the waits for them, and the combination of the four parts. The
   printed function is this program by unfolding. -/
module

public import proofs.«01_k».proof.Proof.Gen.KernelIdeal
public import proofs.«01_k».proof.Proof.Gen.KernelIdeal.Skeleton

@[expose] public section

noncomputable section

namespace Cert.KernelIdeal.Attn

open Idealize.ShloMosaic Idealize.SL.Sem Cert.KernelIdeal Cert.KernelIdeal.Gen

variable {F : FTy → Type} [FloatOps F]

/-! ## Views -/

theorem inb_cols_q (h : Fin 16) : ∀ k, ![0, 64 * h.val] k + S16x64.size k ≤ S16x1024.size k := by
  revert h; decide

theorem inb_cols_kv (h : Fin 16) : ∀ k, ![0, 64 * h.val] k + S2048x64.size k ≤ S2048x1024.size k := by
  revert h; decide

theorem inb_row_o (h : Fin 16) : ∀ k, ![0, h.val, 0, 0] k + S1x1x16x64.size k ≤ S4x16x16x64.size k := by
  revert h; decide

theorem inb_row_ml (a : Fin 2) (h : Fin 16) :
    ∀ k, ![0, a.val, h.val, 0, 0] k + S1x1x1x16x1.size k ≤ S4x2x16x16x1.size k := by
  revert a h; decide

theorem inb_slot_o (s : Fin 4) : ∀ k, ![s.val, 0, 0, 0] k + S1x16x16x64.size k ≤ S4x16x16x64.size k := by
  revert s; decide

theorem inb_slot_ml (s : Fin 4) :
    ∀ k, ![s.val, 0, 0, 0, 0] k + S1x2x16x16x1.size k ≤ S4x2x16x16x1.size k := by
  revert s; decide

/-- The columns of head `h` in the queries. -/
abbrev colsQ (h : Fin 16) : Rect S16x1024 := Rect.unit (s := S16x1024) ![0, 64 * h.val] S16x64.size (inb_cols_q h)
/-- The columns of head `h` in the keys and in the values. -/
abbrev colsKV (h : Fin 16) : Rect S2048x1024 :=
  Rect.unit (s := S2048x1024) ![0, 64 * h.val] S2048x64.size (inb_cols_kv h)
/-- The row of head `h` in the own slot of the weighted values. -/
abbrev rowO (h : Fin 16) : Rect S4x16x16x64 :=
  Rect.unit (s := S4x16x16x64) ![0, h.val, 0, 0] S1x1x16x64.size (inb_row_o h)
/-- The row of head `h` in the own slot of the maxima (`a = 0`) or of the sums (`a = 1`). -/
abbrev rowML (a : Fin 2) (h : Fin 16) : Rect S4x2x16x16x1 :=
  Rect.unit (s := S4x2x16x16x1) ![0, a.val, h.val, 0, 0] S1x1x1x16x1.size (inb_row_ml a h)

/-- Slot `s` of a buffer of weighted values. -/
abbrev slotO (b : Memref sig .tc .vmem S4x16x16x64 .f32) (s : Fin 4) : Memref sig .tc .vmem S16x16x64 .f32 :=
  (b.slice (Rect.unit (s := S4x16x16x64) ![s.val, 0, 0, 0] S1x16x16x64.size (inb_slot_o s)) (fun _ => rfl)).squeeze
    S16x16x64 squeezes_S1x16x16x64_S16x16x64
/-- Slot `s` of a buffer of maxima and sums. -/
abbrev slotML (b : Memref sig .tc .vmem S4x2x16x16x1 .f32) (s : Fin 4) : Memref sig .tc .vmem S2x16x16x1 .f32 :=
  (b.slice (Rect.unit (s := S4x2x16x16x1) ![s.val, 0, 0, 0, 0] S1x2x16x16x1.size (inb_slot_ml s))
    (fun _ => rfl)).squeeze S2x16x16x1 squeezes_S1x2x16x16x1_S2x16x16x1

theorem inb_sem (s : Fin 4) : ∀ k, ![s.val] k + S1.size k ≤ S4.size k := by revert s; decide

/-- Semaphore `s` of an array of four. -/
abbrev semOf (q : DmaSems sig S4) (s : Fin 4) : DmaSem sig :=
  ((q.slice (Rect.unit (s := S4) ![s.val] S1.size (inb_sem s))).squeeze S_ squeezes_S1_S_).sem

/-! ## The steps -/

section Steps

variable (arg0 : Memref sig .tc .vmem S16x1024 .f32) (arg1 arg2 : Memref sig .tc .vmem S2048x1024 .f32)
  (arg3 : Memref sig .tc .vmem S16x128 .i32) (arg4 : Memref sig .tc .vmem S16x1 .i32)
  (arg5 : Memref sig .tc .vmem S16x1x16x64 .f32) (arg6 : Memref sig .tc .vmem S4x16x16x64 .f32)
  (arg7 : Memref sig .tc .vmem S4x2x16x16x1 .f32) (arg8 arg9 arg10 arg11 : DmaSems sig S4)

/-- Programs of one core. -/
abbrev TcProg (F : FTy → Type) (α : Type) := Prog (TpuEff nD τ sig (Elt F) Λ₀ .tc) α

/-- The three results of a head: the weighted values, the row maxima, the sums. -/
abbrev headO (w : FVec F S16x2048 .f32) (wm : IVec S16x2048 1) (q : Vec F S16x64 .f32) (k v : Vec F S2048x64 .f32) :
    FVec F S1x1x16x64 .f32 := k0_pay18 w wm q k v
abbrev headM (wm : IVec S16x2048 1) (q : Vec F S16x64 .f32) (k : Vec F S2048x64 .f32) :
    FVec F S1x1x1x16x1 .f32 := k0_pay19 wm q k
abbrev headL (w : FVec F S16x2048 .f32) (wm : IVec S16x2048 1) (q : Vec F S16x64 .f32) (k : Vec F S2048x64 .f32) :
    FVec F S1x1x1x16x1 .f32 := k0_pay20 (k0_pay17 w wm q k)

/-- How often each key row of the block counts, from the page numbers and the lengths. -/
abbrev weight (d : Dev nD) (pages : Vec F S16x128 .i32) (lens : Vec F S16x1 .i32) : FVec F S16x2048 .f32 :=
  k0_pay5 (k0_pay2 d pages lens) (iota .tc S128x2048 32 [0] iota_S128x2048_d0_w32) k0_pay3 k0_pay4
/-- Where the weight is positive. -/
abbrev counted (d : Dev nD) (pages : Vec F S16x128 .i32) (lens : Vec F S16x1 .i32) : IVec S16x2048 1 :=
  k0_pay6 (k0_pay2 d pages lens) (iota .tc S128x2048 32 [0] iota_S128x2048_d0_w32) k0_pay3 k0_pay4

/-- One head: its three results go to the own slots. -/
def headStep (w : FVec F S16x2048 .f32) (wm : IVec S16x2048 1) (h : Fin 16) : TcProg F PUnit := do
  let q : Vec F S16x64 .f32 ← Prog.lift (.load arg0 (colsQ h).toLoadRect (View.loadsAt_vmem h_S16x64))
  let k : Vec F S2048x64 .f32 ← Prog.lift (.load arg1 (colsKV h).toLoadRect (View.loadsAt_vmem h_S2048x64))
  let v : Vec F S2048x64 .f32 ← Prog.lift (.load arg2 (colsKV h).toLoadRect (View.loadsAt_vmem h_S2048x64))
  let _x : Vec F S1x1x16x64 .f32 ← Prog.lift (.load arg6 (rowO h).toLoadRect (View.loadsAt_vmem h_S1x1x16x64))
  Prog.lift (.store arg6 (rowO h) (headO w wm q k v) Finset.univ (View.stores_vmem_bits_univ h_S1x1x16x64 rfl) (.inl rfl))
  let _y : Vec F S1x1x1x16x1 .f32 ← Prog.lift (.load arg7 (rowML 0 h).toLoadRect (View.loadsAt_vmem h_S1x1x1x16x1))
  Prog.lift (.store arg7 (rowML 0 h) (headM wm q k) Finset.univ (View.stores_vmem_bits_univ h_S1x1x1x16x1 rfl) (.inl rfl))
  let _z : Vec F S1x1x1x16x1 .f32 ← Prog.lift (.load arg7 (rowML 1 h).toLoadRect (View.loadsAt_vmem h_S1x1x1x16x1))
  Prog.lift (.store arg7 (rowML 1 h) (headL w wm q k) Finset.univ (View.stores_vmem_bits_univ h_S1x1x1x16x1 rfl) (.inl rfl))

/-- The heads of a list in turn, then `k`. -/
def heads (w : FVec F S16x2048 .f32) (wm : IVec S16x2048 1) : List (Fin 16) → TcProg F PUnit → TcProg F PUnit
  | [], k => k
  | h :: l, k => do headStep arg0 arg1 arg2 arg6 arg7 w wm h; heads w wm l k

/-- The sixteen heads. -/
abbrev headList : List (Fin 16) := [0, 1, 2, 3, 4, 5, 6, 7, 8, 9, 10, 11, 12, 13, 14, 15]

/-- The copy of the own weighted values to slot `s` of device `p`. -/
def copyO (p : Dev nD) (d s : Fin 4) : TcProg F PUnit :=
  Prog.lift (.enqueueDma (slotO arg6 0) (.remote (Dev.tc p) (slotO arg6 s) (.dma (semOf arg8 d))) (.dma (semOf arg9 s))
    ((View.wordExact_bits rfl).reshape _ _) ((View.wordExact_bits rfl).reshape _ _) ⟨⟨rfl, Or.inl rfl⟩, trivial⟩)
/-- The copy of the own maxima and sums to slot `s` of device `p`. -/
def copyML (p : Dev nD) (d s : Fin 4) : TcProg F PUnit :=
  Prog.lift (.enqueueDma (slotML arg7 0) (.remote (Dev.tc p) (slotML arg7 s) (.dma (semOf arg10 d))) (.dma (semOf arg11 s))
    ((View.wordExact_bits rfl).reshape _ _) ((View.wordExact_bits rfl).reshape _ _) ⟨⟨rfl, Or.inl rfl⟩, trivial⟩)

/-- The waits for the pair of copies sent to distance `d` and for the pair received in slot `s`. -/
def waits (d s : Fin 4) : TcProg F PUnit := do
  Prog.lift (.waitDma2 (semOf arg8 d) (slotO arg6 s) (slotO arg6 0) ((View.wordExact_bits rfl).reshape _ _) ((View.wordExact_bits rfl).reshape _ _))
  Prog.lift (.waitDma2 (semOf arg9 s) (slotO arg6 0) (slotO arg6 s) ((View.wordExact_bits rfl).reshape _ _) ((View.wordExact_bits rfl).reshape _ _))
  Prog.lift (.waitDma2 (semOf arg10 d) (slotML arg7 s) (slotML arg7 0) ((View.wordExact_bits rfl).reshape _ _) ((View.wordExact_bits rfl).reshape _ _))
  Prog.lift (.waitDma2 (semOf arg11 s) (slotML arg7 0) (slotML arg7 s) ((View.wordExact_bits rfl).reshape _ _) ((View.wordExact_bits rfl).reshape _ _))

/-- The combination of the four slots and the store of the result. -/
def combine : TcProg F PUnit := do
  let ms : Vec F S4x1x16x16x1 .f32 ← Prog.lift (.load arg7 (Rect.unit (s := S4x2x16x16x1) ![0, 0, 0, 0, 0] S4x1x16x16x1.size inb_S4x2x16x16x1_S4x1x16x16x1_0_0_0_0_0).toLoadRect (View.loadsAt_vmem h_S4x1x16x16x1))
  let ls : Vec F S4x1x16x16x1 .f32 ← Prog.lift (.load arg7 (Rect.unit (s := S4x2x16x16x1) ![0, 1, 0, 0, 0] S4x1x16x16x1.size inb_S4x2x16x16x1_S4x1x16x16x1_0_1_0_0_0).toLoadRect (View.loadsAt_vmem h_S4x1x16x16x1))
  let os : Vec F S4x16x16x64 .f32 ← Prog.lift (.load arg6 (Rect.unit (s := S4x16x16x64) ![0, 0, 0, 0] S4x16x16x64.size inb_S4x16x16x64_S4x16x16x64_0_0_0_0).toLoadRect (View.loadsAt_vmem h_S4x16x16x64))
  let _x : Vec F S16x1x16x64 .f32 ← Prog.lift (.load arg5 (Rect.unit (s := S16x1x16x64) ![0, 0, 0, 0] S16x1x16x64.size inb_S16x1x16x64_S16x1x16x64_0_0_0_0).toLoadRect (View.loadsAt_vmem h_S16x1x16x64))
  Prog.lift (.store arg5 (Rect.unit (s := S16x1x16x64) ![0, 0, 0, 0] S16x1x16x64.size inb_S16x1x16x64_S16x1x16x64_0_0_0_0) (k0_pay1 (k0_pay124 ms ls os)) Finset.univ (View.stores_vmem_bits_univ h_S16x1x16x64 rfl) (.inl rfl))

/-- The handshake: one unit to each other device, three units awaited. -/
def handshake (d0 : Dev nD) : TcProg F PUnit := do
  semSignalWord (⟨k0_dev1 d0, k0_dev1_lt d0⟩ : Dev nD) (SemArray.scalar (sig.barrier 0 rfl) : Sems sig S_).sem 1#32
  semSignalWord (⟨k0_dev2 d0, k0_dev2_lt d0⟩ : Dev nD) (SemArray.scalar (sig.barrier 0 rfl) : Sems sig S_).sem 1#32
  semSignalWord (⟨k0_dev3 d0, k0_dev3_lt d0⟩ : Dev nD) (SemArray.scalar (sig.barrier 0 rfl) : Sems sig S_).sem 1#32
  semWaitWord (SemArray.scalar (sig.barrier 0 rfl) : Sems sig S_).sem 3#32

/-- The six copies. -/
def copies (d0 : Dev nD) : TcProg F PUnit := do
  copyO arg6 arg8 arg9 (⟨k0_dev4 d0, k0_dev4_lt d0⟩ : Dev nD) 1 3
  copyML arg7 arg10 arg11 (⟨k0_dev5 d0, k0_dev5_lt d0⟩ : Dev nD) 1 3
  copyO arg6 arg8 arg9 (⟨k0_dev6 d0, k0_dev6_lt d0⟩ : Dev nD) 2 2
  copyML arg7 arg10 arg11 (⟨k0_dev7 d0, k0_dev7_lt d0⟩ : Dev nD) 2 2
  copyO arg6 arg8 arg9 (⟨k0_dev8 d0, k0_dev8_lt d0⟩ : Dev nD) 3 1
  copyML arg7 arg10 arg11 (⟨k0_dev9 d0, k0_dev9_lt d0⟩ : Dev nD) 3 1

/-- All after the heads. -/
def exchange (d0 : Dev nD) : TcProg F PUnit := do
  handshake d0
  copies arg6 arg7 arg8 arg9 arg10 arg11 d0
  waits arg6 arg7 arg8 arg9 arg10 arg11 1 3
  waits arg6 arg7 arg8 arg9 arg10 arg11 2 2
  waits arg6 arg7 arg8 arg9 arg10 arg11 3 1
  combine arg5 arg6 arg7
  pure ⟨⟩

/-- The whole kernel function. -/
def steps : TcProg F PUnit := do
  let d0 : Dev nD ← Prog.lift .deviceId
  let pages : Vec F S16x128 .i32 ← Prog.lift (.load arg3 (Rect.unit (s := S16x128) ![0, 0] S16x128.size inb_S16x128_S16x128_0_0).toLoadRect (View.loadsAt_vmem h_S16x128))
  let lens : Vec F S16x1 .i32 ← Prog.lift (.load arg4 (Rect.unit (s := S16x1) ![0, 0] S16x1.size inb_S16x1_S16x1_0_0).toLoadRect (View.loadsAt_vmem h_S16x1))
  heads arg0 arg1 arg2 arg6 arg7 (weight d0 pages lens) (counted d0 pages lens) headList
    (exchange arg5 arg6 arg7 arg8 arg9 arg10 arg11 d0)

end Steps

set_option maxRecDepth 65536 in
set_option maxHeartbeats 4000000 in
/-- The printed function is `steps`. -/
theorem body_eq_steps (arg0 : Memref sig .tc .vmem S16x1024 .f32) (harg0 : arg0.IsWhole) (arg1 : Memref sig .tc .vmem S2048x1024 .f32) (harg1 : arg1.IsWhole) (arg2 : Memref sig .tc .vmem S2048x1024 .f32) (harg2 : arg2.IsWhole) (arg3 : Memref sig .tc .vmem S16x128 .i32) (harg3 : arg3.IsWhole) (arg4 : Memref sig .tc .vmem S16x1 .i32) (harg4 : arg4.IsWhole) (arg5 : Memref sig .tc .vmem S16x1x16x64 .f32) (harg5 : arg5.IsWhole) (arg6 : Memref sig .tc .vmem S4x16x16x64 .f32) (harg6 : arg6.IsWhole) (arg7 : Memref sig .tc .vmem S4x2x16x16x1 .f32) (harg7 : arg7.IsWhole) (arg8 arg9 arg10 arg11 : DmaSems sig S4) :
    cc0_body (F := F) arg0 harg0 arg1 harg1 arg2 harg2 arg3 harg3 arg4 harg4 arg5 harg5 arg6 harg6 arg7 harg7 arg8 arg9 arg10 arg11
      = steps arg0 arg1 arg2 arg3 arg4 arg5 arg6 arg7 arg8 arg9 arg10 arg11 := by
  rw [cc0_body_eq_skeleton]
  rfl

end Cert.KernelIdeal.Attn
-- ==== Proof.Contents.lean ====
/- What the buffers hold: the staged blocks of a device, the three results of each head, and the two
   exchange buffers once every slot has arrived. -/
module

public import proofs.«01_k».proof.Proof.Steps
public import proofs.«01_k».proof.Proof.Gen.KernelIdeal.Launch
public import proofs.«01_k».proof.Proof.Gen.KernelIdeal.Points

@[expose] public section

noncomputable section

namespace Cert.KernelIdeal.Attn

open Idealize.ShloMosaic Idealize.ShloMosaic.TcCoe Idealize.SL.Sem Cert.KernelIdeal Cert.KernelIdeal.Gen

variable {F : FTy → Type} [FloatOps F]

/-! ## Devices -/

/-- The device `s` places further round. -/
def up (c : Dev nD) (s : Fin 4) : Dev nD := ⟨(c.val + s.val) % 4, Nat.mod_lt _ (by decide)⟩
/-- The device `s` places back. -/
def dn (c : Dev nD) (s : Fin 4) : Dev nD := ⟨(c.val + 4 - s.val) % 4, Nat.mod_lt _ (by decide)⟩
/-- The slot a copy of distance `d` lands in. -/
abbrev co (d : Fin 4) : Fin 4 := ⟨(4 - d.val) % 4, Nat.mod_lt _ (by decide)⟩

theorem up_dn (c : Dev nD) (s : Fin 4) : up (dn c s) s = c := by revert c s; decide
theorem dn_up (c : Dev nD) (s : Fin 4) : dn (up c s) s = c := by revert c s; decide
theorem up_zero (c : Dev nD) : up c 0 = c := by revert c; decide
theorem up_co (c : Dev nD) (d : Fin 4) : up c (co d) = dn c d := by revert c d; decide
theorem up_up_co (c : Dev nD) (d : Fin 4) : up (up c d) (co d) = c := by revert c d; decide
theorem co_co (d : Fin 4) : co (co d) = d := by revert d; decide

set_option backward.proofsInPublic true in
theorem dev1_eq (c : Dev nD) : (⟨k0_dev1 c, k0_dev1_lt c⟩ : Dev nD) = up c 1 := by revert c; decide
set_option backward.proofsInPublic true in
theorem dev2_eq (c : Dev nD) : (⟨k0_dev2 c, k0_dev2_lt c⟩ : Dev nD) = up c 2 := by revert c; decide
set_option backward.proofsInPublic true in
theorem dev3_eq (c : Dev nD) : (⟨k0_dev3 c, k0_dev3_lt c⟩ : Dev nD) = up c 3 := by revert c; decide
set_option backward.proofsInPublic true in
theorem dev4_eq (c : Dev nD) : (⟨k0_dev4 c, k0_dev4_lt c⟩ : Dev nD) = up c 1 := by revert c; decide
set_option backward.proofsInPublic true in
theorem dev5_eq (c : Dev nD) : (⟨k0_dev5 c, k0_dev5_lt c⟩ : Dev nD) = up c 1 := by revert c; decide
set_option backward.proofsInPublic true in
theorem dev6_eq (c : Dev nD) : (⟨k0_dev6 c, k0_dev6_lt c⟩ : Dev nD) = up c 2 := by revert c; decide
set_option backward.proofsInPublic true in
theorem dev7_eq (c : Dev nD) : (⟨k0_dev7 c, k0_dev7_lt c⟩ : Dev nD) = up c 2 := by revert c; decide
set_option backward.proofsInPublic true in
theorem dev8_eq (c : Dev nD) : (⟨k0_dev8 c, k0_dev8_lt c⟩ : Dev nD) = up c 3 := by revert c; decide
set_option backward.proofsInPublic true in
theorem dev9_eq (c : Dev nD) : (⟨k0_dev9 c, k0_dev9_lt c⟩ : Dev nD) = up c 3 := by revert c; decide

/-! ## The buffers -/

abbrev qM : Memref sig .tc .vmem S16x1024 .f32 := Memref.whole cc0_stg0_0
abbrev kM : Memref sig .tc .vmem S2048x1024 .f32 := Memref.whole cc0_stg1_0
abbrev vM : Memref sig .tc .vmem S2048x1024 .f32 := Memref.whole cc0_stg2_0
abbrev btM : Memref sig .tc .vmem S16x128 .i32 := Memref.whole cc0_stg3_0
abbrev lnM : Memref sig .tc .vmem S16x1 .i32 := Memref.whole cc0_stg4_0
abbrev outM : Memref sig .tc .vmem S16x1x16x64 .f32 := Memref.whole cc0_stg5_0
abbrev oM : Memref sig .tc .vmem S4x16x16x64 .f32 := Memref.whole cc0_scratch0
abbrev mlM : Memref sig .tc .vmem S4x2x16x16x1 .f32 := Memref.whole cc0_scratch1

/-- The contents of a vector buffer. -/
abbrev Cont (F : FTy → Type) (b : Ref sig .tc) := b.ty.Contents (Elt F)

section Mem

variable (m : (ℓ : Loc nD τ sig) → Buf (Elt F) ℓ)

/-- The staged queries, keys, values, page numbers and lengths of device `c`. -/
def xq (c : Dev nD) : Cont F cc0_stg0_0 := (win0_0.blk (0 : Fin 1)).view.read (Elt F) (m ((c : Thread nD τ).loc main_arg0))
def xk (c : Dev nD) : Cont F cc0_stg1_0 := (win0_1.blk (0 : Fin 1)).view.read (Elt F) (m ((c : Thread nD τ).loc main_arg1))
def xv (c : Dev nD) : Cont F cc0_stg2_0 := (win0_2.blk (0 : Fin 1)).view.read (Elt F) (m ((c : Thread nD τ).loc main_arg2))
def xb (c : Dev nD) : Cont F cc0_stg3_0 := (win0_3.blk (0 : Fin 1)).view.read (Elt F) (m ((c : Thread nD τ).loc main_arg3))
def xl (c : Dev nD) : Cont F cc0_stg4_0 := (win0_4.blk (0 : Fin 1)).view.read (Elt F) (m ((c : Thread nD τ).loc main_arg4))

/-- The columns of a head in a device's blocks. -/
def qH (c : Dev nD) (h : Fin 16) : Vec F S16x64 .f32 := qM.view.readAt (Elt F) (colsQ h).toLoadRect (xq m c)
def kH (c : Dev nD) (h : Fin 16) : Vec F S2048x64 .f32 := kM.view.readAt (Elt F) (colsKV h).toLoadRect (xk m c)
def vH (c : Dev nD) (h : Fin 16) : Vec F S2048x64 .f32 := vM.view.readAt (Elt F) (colsKV h).toLoadRect (xv m c)
def wgt (c : Dev nD) : FVec F S16x2048 .f32 := weight c (xb m c) (xl m c)
def cnt (c : Dev nD) : IVec S16x2048 1 := counted c (xb m c) (xl m c)

/-- The results of head `h` on device `c`. -/
def rO (c : Dev nD) (h : Fin 16) : FVec F S1x1x16x64 .f32 := headO (wgt m c) (cnt m c) (qH m c h) (kH m c h) (vH m c h)
def rM (c : Dev nD) (h : Fin 16) : FVec F S1x1x1x16x1 .f32 := headM (cnt m c) (qH m c h) (kH m c h)
def rL (c : Dev nD) (h : Fin 16) : FVec F S1x1x1x16x1 .f32 := headL (wgt m c) (cnt m c) (qH m c h) (kH m c h)

/-- The place in a row of weighted values under a place of the buffer. -/
def tailO (i : S4x16x16x64.Idx) : S1x1x16x64.Idx := fun a => match a with
  | ⟨0, _⟩ => (0 : Fin 1) | ⟨1, _⟩ => (0 : Fin 1) | ⟨2, _⟩ => i 2 | ⟨3, _⟩ => i 3
/-- The same for a row of maxima or sums. -/
def tailML (i : S4x2x16x16x1.Idx) : S1x1x1x16x1.Idx := fun a => match a with
  | ⟨0, _⟩ => (0 : Fin 1) | ⟨1, _⟩ => (0 : Fin 1) | ⟨2, _⟩ => (0 : Fin 1) | ⟨3, _⟩ => i 3 | ⟨4, _⟩ => i 4

/-- The weighted values of device `c` in the own slot and of the device `s` places further round in slot `s`. -/
def oAll (c : Dev nD) : Cont F cc0_scratch0 := fun i => rO m (up c (i 0)) (i 1) (tailO i)
/-- The same for the maxima and sums. -/
def mlAll (c : Dev nD) : Cont F cc0_scratch1 := fun i =>
  if (i 1).val = 0 then rM m (up c (i 0)) (i 2) (tailML i) else rL m (up c (i 0)) (i 2) (tailML i)

/-! ## The heads fill the own slot -/

/-- The head of a place. -/
abbrev hdO (i : S4x16x16x64.Idx) : Fin 16 := i 1
/-- The kind (maximum or sum) and the head of a place. -/
abbrev kindML (i : S4x2x16x16x1.Idx) : Fin 2 := i 1
abbrev hdML (i : S4x2x16x16x1.Idx) : Fin 16 := i 2

/-- The weighted values after the heads of a list, from `f`. -/
def fillO (c : Dev nD) (l : List (Fin 16)) (f : Cont F cc0_scratch0) : Cont F cc0_scratch0 :=
  l.foldl (fun f h => (oM.access (rowO h)).write (Elt F) f (rO m c h) Finset.univ) f
/-- The maxima and sums after the heads of a list, from `f`. -/
def fillML (c : Dev nD) (l : List (Fin 16)) (f : Cont F cc0_scratch1) : Cont F cc0_scratch1 :=
  l.foldl (fun f h => (mlM.access (rowML 1 h)).write (Elt F)
    ((mlM.access (rowML 0 h)).write (Elt F) f (rM m c h) Finset.univ) (rL m c h) Finset.univ) f

theorem writeO (f : Cont F cc0_scratch0) (w : FVec F S1x1x16x64 .f32) (h : Fin 16) (i : S4x16x16x64.Idx) (h0 : (i 0).val = 0) :
    ((oM.access (rowO h)).write (Elt F) f w Finset.univ : Cont F cc0_scratch0) i
      = if hdO i = h then w (tailO i) else f i := by
  by_cases hh : hdO i = h
  · rw [if_pos hh]
    have hi : i = (oM.access (rowO h)).emb (tailO i) := by
      show i = (rowO h).emb (tailO i)
      funext a
      refine Fin.ext ?_
      rw [Rect.emb_apply]
      subst hh
      fin_cases a <;> simp [tailO, h0]
    conv_lhs => rw [hi]
    exact View.write_emb_of_mem _ _ (Finset.mem_univ _)
  · rw [if_neg hh]
    refine View.write_of_not_mem _ _ _ (fun hm => hh ?_)
    rw [View.setOn_univ] at hm
    have hs : i ∈ (rowO h).set := by
      have := hm
      rwa [show (oM.access (rowO h)).set = (rowO h).set from View.set_slice_whole _ _] at this
    have := ((Rect.mem_set_unit).mp hs) 1
    refine Fin.ext ?_
    have h1 : h.val ≤ (hdO i).val := this.1
    have h2 : (hdO i).val < h.val + 1 := this.2
    omega

theorem writeML (f : Cont F cc0_scratch1) (w : FVec F S1x1x1x16x1 .f32) (a : Fin 2) (h : Fin 16) (i : S4x2x16x16x1.Idx)
    (h0 : (i 0).val = 0) :
    ((mlM.access (rowML a h)).write (Elt F) f w Finset.univ : Cont F cc0_scratch1) i
      = if kindML i = a ∧ hdML i = h then w (tailML i) else f i := by
  by_cases hh : kindML i = a ∧ hdML i = h
  · rw [if_pos hh]
    have hi : i = (mlM.access (rowML a h)).emb (tailML i) := by
      show i = (rowML a h).emb (tailML i)
      funext b
      refine Fin.ext ?_
      rw [Rect.emb_apply]
      obtain ⟨rfl, rfl⟩ := hh
      fin_cases b <;> simp [tailML, h0]
    conv_lhs => rw [hi]
    exact View.write_emb_of_mem _ _ (Finset.mem_univ _)
  · rw [if_neg hh]
    refine View.write_of_not_mem _ _ _ (fun hm => hh ?_)
    rw [View.setOn_univ] at hm
    have hs : i ∈ (rowML a h).set := by
      have := hm
      rwa [show (mlM.access (rowML a h)).set = (rowML a h).set from View.set_slice_whole _ _] at this
    have t1 := ((Rect.mem_set_unit).mp hs) 1
    have t2 := ((Rect.mem_set_unit).mp hs) 2
    have h1 : a.val ≤ (kindML i).val := t1.1
    have h2 : (kindML i).val < a.val + 1 := t1.2
    have h3 : h.val ≤ (hdML i).val := t2.1
    have h4 : (hdML i).val < h.val + 1 := t2.2
    exact ⟨Fin.ext (by omega), Fin.ext (by omega)⟩

theorem fillO_apply (c : Dev nD) (l : List (Fin 16)) (f : Cont F cc0_scratch0) (i : S4x16x16x64.Idx) (h0 : (i 0).val = 0) :
    fillO m c l f i = if hdO i ∈ l then rO m c (hdO i) (tailO i) else f i := by
  induction l generalizing f with
  | nil => rw [if_neg (by simp)]; rfl
  | cons h l ih =>
    show fillO m c l ((oM.access (rowO h)).write (Elt F) f (rO m c h) Finset.univ) i = _
    rw [ih, writeO _ _ _ _ h0]
    by_cases h1 : hdO i ∈ l
    · rw [if_pos h1, if_pos (List.mem_cons_of_mem _ h1)]
    · rw [if_neg h1]
      by_cases h2 : hdO i = h
      · rw [if_pos h2, if_pos (by rw [h2]; exact List.mem_cons_self), h2]
      · rw [if_neg h2, if_neg (fun hc => (List.mem_cons.mp hc).elim h2 h1)]

theorem fillML_apply (c : Dev nD) (l : List (Fin 16)) (f : Cont F cc0_scratch1) (i : S4x2x16x16x1.Idx) (h0 : (i 0).val = 0) :
    fillML m c l f i = if hdML i ∈ l then
      (if (kindML i).val = 0 then rM m c (hdML i) (tailML i) else rL m c (hdML i) (tailML i)) else f i := by
  induction l generalizing f with
  | nil => rw [if_neg (by simp)]; rfl
  | cons h l ih =>
    show fillML m c l ((mlM.access (rowML 1 h)).write (Elt F)
      ((mlM.access (rowML 0 h)).write (Elt F) f (rM m c h) Finset.univ) (rL m c h) Finset.univ) i = _
    rw [ih, writeML _ _ _ _ _ h0, writeML _ _ _ _ _ h0]
    by_cases h1 : hdML i ∈ l
    · rw [if_pos h1, if_pos (List.mem_cons_of_mem _ h1)]
    · rw [if_neg h1]
      by_cases h2 : hdML i = h
      · rw [if_pos (show hdML i ∈ h :: l from by rw [h2]; exact List.mem_cons_self)]
        have hlt : (kindML i).val < 2 := (kindML i).isLt
        by_cases h3 : (kindML i).val = 0
        · rw [if_neg (show ¬(kindML i = 1 ∧ hdML i = h) from fun hc => by have := congrArg Fin.val hc.1; simp [h3] at this), if_pos (show kindML i = 0 ∧ hdML i = h from ⟨Fin.ext h3, h2⟩), if_pos h3, h2]
        · rw [if_pos (show kindML i = 1 ∧ hdML i = h from ⟨Fin.ext (by show (kindML i).val = 1; omega), h2⟩), if_neg h3, h2]
      · rw [if_neg (fun hc => h2 hc.2), if_neg (fun hc => h2 hc.2), if_neg (fun hc => (List.mem_cons.mp hc).elim h2 h1)]

theorem mem_headList (h : Fin 16) : h ∈ headList := by revert h; decide

theorem fillO_own (c : Dev nD) (f : Cont F cc0_scratch0) (i : S4x16x16x64.Idx) (h0 : (i 0).val = 0) :
    fillO m c headList f i = oAll m c i := by
  rw [fillO_apply m c _ _ _ h0, if_pos (mem_headList _)]
  unfold oAll
  rw [show i 0 = (0 : Fin 4) from Fin.ext h0, up_zero]

theorem fillML_own (c : Dev nD) (f : Cont F cc0_scratch1) (i : S4x2x16x16x1.Idx) (h0 : (i 0).val = 0) :
    fillML m c headList f i = mlAll m c i := by
  rw [fillML_apply m c _ _ _ h0, if_pos (mem_headList _)]
  unfold mlAll
  rw [show i 0 = (0 : Fin 4) from Fin.ext h0, up_zero]

/-! ## The slots -/

theorem slotO_set (s : Fin 4) : (slotO oM s).view.set
    = (Rect.unit (s := S4x16x16x64) ![s.val, 0, 0, 0] S1x16x16x64.size (inb_slot_o s)).set :=
  (View.set_reshape _ _).trans (View.set_slice_whole _ _)
theorem slotML_set (s : Fin 4) : (slotML mlM s).view.set
    = (Rect.unit (s := S4x2x16x16x1) ![s.val, 0, 0, 0, 0] S1x2x16x16x1.size (inb_slot_ml s)).set :=
  (View.set_reshape _ _).trans (View.set_slice_whole _ _)

theorem mem_slotO (s : Fin 4) (i : S4x16x16x64.Idx) : i ∈ (slotO oM s).view.set ↔ i 0 = s := by
  rw [slotO_set, Rect.mem_set_unit]
  constructor
  · intro h
    have h1 : s.val ≤ (i 0).val := (h 0).1
    have h2 : (i 0).val < s.val + 1 := (h 0).2
    exact Fin.ext (by omega)
  · rintro rfl a
    have := (i a).isLt
    fin_cases a <;> simp at this ⊢ <;> omega

theorem mem_slotML (s : Fin 4) (i : S4x2x16x16x1.Idx) : i ∈ (slotML mlM s).view.set ↔ i 0 = s := by
  rw [slotML_set, Rect.mem_set_unit]
  constructor
  · intro h
    have h1 : s.val ≤ (i 0).val := (h 0).1
    have h2 : (i 0).val < s.val + 1 := (h 0).2
    exact Fin.ext (by omega)
  · rintro rfl a
    have := (i a).isLt
    fin_cases a <;> simp at this ⊢ <;> omega

theorem embO_zero (s : Fin 4) (x : S16x16x64.Idx) : ((slotO oM s).view.emb x : S4x16x16x64.Idx) 0 = s :=
  (mem_slotO s _).mp (View.emb_mem_set _ _)
theorem embML_zero (s : Fin 4) (x : S2x16x16x1.Idx) : ((slotML mlM s).view.emb x : S4x2x16x16x1.Idx) 0 = s :=
  (mem_slotML s _).mp (View.emb_mem_set _ _)

theorem embO_tail (s : Fin 4) (x : S16x16x64.Idx) (a : Fin 3) :
    ((slotO oM s).view.emb x : S4x16x16x64.Idx) a.succ = ((slotO oM 0).view.emb x : S4x16x16x64.Idx) a.succ := by
  refine Fin.ext ?_
  fin_cases a <;> rfl
theorem embML_tail (s : Fin 4) (x : S2x16x16x1.Idx) (a : Fin 4) :
    ((slotML mlM s).view.emb x : S4x2x16x16x1.Idx) a.succ = ((slotML mlM 0).view.emb x : S4x2x16x16x1.Idx) a.succ := by
  refine Fin.ext ?_
  fin_cases a <;> rfl

/-- A copy of `c`'s own slot into slot `s` of a device `p` from which `c` is `s` places further. -/
theorem landO (c p : Dev nD) (s : Fin 4) (hp : up p s = c) (fd : Cont F cc0_scratch0) (i : S4x16x16x64.Idx)
    (hi : i ∈ (slotO oM s).view.set) :
    ((slotO oM s).view.write (Elt F) fd ((slotO oM 0).view.read (Elt F) (oAll m c)) Finset.univ : Cont F cc0_scratch0) i
      = oAll m p i := by
  obtain ⟨x, -, rfl⟩ := Finset.mem_map.mp hi
  refine (View.write_emb_of_mem (v := (slotO oM s).view) _ _ (Finset.mem_univ x)).trans ?_
  show oAll m c ((slotO oM 0).view.emb x) = oAll m p ((slotO oM s).view.emb x)
  unfold oAll
  rw [embO_zero, embO_zero, up_zero, hp]
  have e1 := embO_tail s x 0
  have e2 := embO_tail s x 1
  have e3 := embO_tail s x 2
  refine congr (congrArg (rO m c) e1.symm) ?_
  funext a
  fin_cases a
  · rfl
  · rfl
  · exact e2.symm
  · exact e3.symm

theorem landML (c p : Dev nD) (s : Fin 4) (hp : up p s = c) (fd : Cont F cc0_scratch1) (i : S4x2x16x16x1.Idx)
    (hi : i ∈ (slotML mlM s).view.set) :
    ((slotML mlM s).view.write (Elt F) fd ((slotML mlM 0).view.read (Elt F) (mlAll m c)) Finset.univ : Cont F cc0_scratch1) i
      = mlAll m p i := by
  obtain ⟨x, -, rfl⟩ := Finset.mem_map.mp hi
  refine (View.write_emb_of_mem (v := (slotML mlM s).view) _ _ (Finset.mem_univ x)).trans ?_
  show mlAll m c ((slotML mlM 0).view.emb x) = mlAll m p ((slotML mlM s).view.emb x)
  unfold mlAll
  rw [embML_zero, embML_zero, up_zero, hp]
  have e1 := embML_tail s x 0
  have e2 := embML_tail s x 1
  have e3 := embML_tail s x 2
  have e4 := embML_tail s x 3
  have et : tailML ((slotML mlM 0).view.emb x) = tailML ((slotML mlM s).view.emb x) := by
    funext a
    fin_cases a
    · rfl
    · rfl
    · rfl
    · exact e3.symm
    · exact e4.symm
  have e1' : (((slotML mlM 0).view.emb x : S4x2x16x16x1.Idx) 1).val = (((slotML mlM s).view.emb x : S4x2x16x16x1.Idx) 1).val :=
    congrArg Fin.val e1.symm
  have e2' : ((slotML mlM 0).view.emb x : S4x2x16x16x1.Idx) 2 = ((slotML mlM s).view.emb x : S4x2x16x16x1.Idx) 2 := e2.symm
  rw [et, e1', e2']

/-! ## The result -/

abbrev rectMs : Rect S4x2x16x16x1 :=
  Rect.unit (s := S4x2x16x16x1) ![0, 0, 0, 0, 0] S4x1x16x16x1.size inb_S4x2x16x16x1_S4x1x16x16x1_0_0_0_0_0
abbrev rectLs : Rect S4x2x16x16x1 :=
  Rect.unit (s := S4x2x16x16x1) ![0, 1, 0, 0, 0] S4x1x16x16x1.size inb_S4x2x16x16x1_S4x1x16x16x1_0_1_0_0_0

/-- The maxima and the sums of the four slots. -/
def msAll (c : Dev nD) : Vec F S4x1x16x16x1 .f32 := mlM.view.readAt (Elt F) rectMs.toLoadRect (mlAll m c)
def lsAll (c : Dev nD) : Vec F S4x1x16x16x1 .f32 := mlM.view.readAt (Elt F) rectLs.toLoadRect (mlAll m c)

/-- What device `c` stores. -/
def res (c : Dev nD) : Cont F cc0_stg5_0 := k0_pay1 (k0_pay124 (msAll m c) (lsAll m c) (oAll m c))

end Mem

end Cert.KernelIdeal.Attn
-- ==== Proof.Protocol.lean ====
/- The protocol of the exchange: who pays which semaphore, what each payment hands over, what each device
   owes at the start, and the order in which waiting is allowed.

   A device's barrier cell is paid once by each of the three other devices; the unit of the device `d` places
   back hands over slot `d` of that device's two exchange buffers. A send cell returns the share of the own
   slot lent to the copy, a receive cell brings the slot filled. -/
module

public import proofs.«01_k».proof.Proof.Contents
public import Idealize.ShloMosaic.Lib.Pipeline.Launch
public import Idealize.ShloMosaic.Lib.Pipeline.Kit
public import Idealize.ShloMosaic.Lib.Tactic

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

/-- Duties are numbered by distance. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- The barrier semaphore. -/
abbrev barS : Sem sig := (SemArray.scalar (sig.barrier 0 rfl) : Sems sig S_).sem

/-- The four arrays of transfer semaphores: sends and receipts of weighted values, then of maxima and sums. -/
abbrev semArr : Fin 4 → DmaSems sig S4
  | 0 => cc0_scratch2 | 1 => cc0_scratch3 | 2 => cc0_scratch4 | 3 => cc0_scratch5

/-- Semaphore `s` of array `a`. -/
abbrev qS (a s : Fin 4) : DmaSem sig := semOf (semArr a) s

theorem qS_val (a s : Fin 4) : (qS a s).val = 6 + 4 * a.val + s.val := by
  fin_cases a <;> fin_cases s <;> rfl

/-- The cells of a device: the barrier, and the sixteen transfer semaphores by array and number. -/
abbrev Cx := Unit ⊕ (Fin 4 × Fin 4)

abbrev csem : Cx → SemLoc sig
  | .inl _ => .reg barS
  | .inr x => .dma (qS x.1 x.2)
abbrev osem : Fin 4 × Fin 4 → SemLoc sig := fun x => .dma (qS x.1 x.2)
abbrev kcell (ck : Dev nD × Cx) : GSem nD τ sig := ((ck.1 : Thread nD τ), csem ck.2)

abbrev barCell (c : Dev nD) : GSem nD τ sig := ((c : Thread nD τ), .reg barS)
abbrev qCell (a : Fin 4) (c : Dev nD) (s : Fin 4) : GSem nD τ sig := ((c : Thread nD τ), .dma (qS a s))

theorem csem_injective : Function.Injective csem := by
  rintro (⟨⟩ | ⟨a, s⟩) (⟨⟩ | ⟨a', s'⟩) h
  · rfl
  · cases h
  · cases h
  · have h' : qS a s = qS a' s' := by
      have := h
      exact SemLoc.dma.inj this
    have hv := congrArg Fin.val h'
    rw [qS_val, qS_val] at hv
    have := a.isLt; have := s.isLt; have := a'.isLt; have := s'.isLt
    rw [show a = a' from Fin.ext (by omega), show s = s' from Fin.ext (by omega)]

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- What a slot of weighted values counts on a transfer semaphore, and what a slot of maxima and sums counts. -/
abbrev NO : ℕ := (slotO oM 0).view.dmaCredit
abbrev NML : ℕ := (slotML mlM 0).view.dmaCredit
theorem NO_pos : 0 < NO := View.dmaCredit_pos _ (by decide)
theorem NML_pos : 0 < NML := View.dmaCredit_pos _ (by decide)

/-- The units of one payment of a cell. -/
abbrev amt : Cx → ℕ
  | .inl _ => 1
  | .inr x => if x.1.val < 2 then NO else NML

/-! ## Slots -/

/-- Slot `s` of device `c`'s weighted values, at a share. -/
def ptsO (c : Dev nD) (s : Fin 4) (q : PosShare TreeShare) (f : Cont F cc0_scratch0) : sProp 𝕄 :=
  (slotO oM s).view.loc (c : Thread nD τ) ↦[(slotO oM s).view.set]{q} f
/-- Slot `s` of device `c`'s maxima and sums, at a share. -/
def ptsML (c : Dev nD) (s : Fin 4) (q : PosShare TreeShare) (f : Cont F cc0_scratch1) : sProp 𝕄 :=
  (slotML mlM s).view.loc (c : Thread nD τ) ↦[(slotML mlM s).view.set]{q} f

omit [FloatOps F] in
instance ptsO_storable (c : Dev nD) (s : Fin 4) (q f) : BI.Storable (upEmb : UEmb _ 𝕄) (ptsO (F := F) c s q f) := by
  unfold ptsO; infer_instance
omit [FloatOps F] in
instance ptsML_storable (c : Dev nD) (s : Fin 4) (q f) : BI.Storable (upEmb : UEmb _ 𝕄) (ptsML (F := F) c s q f) := by
  unfold ptsML; infer_instance

/-- The share of the own slot lent to the copy of distance `d`. -/
abbrev shr : Fin 4 → PosShare TreeShare
  | 0 => fullShare | 1 => fullShare.left | 2 => fullShare.right.left | 3 => fullShare.right.right

section Mem

variable (m : (ℓ : Loc nD τ sig) → Buf (Elt F) ℓ)

/-! ## The schedule -/

/-- What the device `d` places back hands over with its unit. -/
def barPay (c : Dev nD) (d : Fin 4) : sProp 𝕄 :=
  iprop((∃ f, ptsO (dn c d) d fullShare f) ∗ (∃ f, ptsML (dn c d) d fullShare f))

/-- What the transfer cell `s` of array `a` holds. -/
def xferPay (c : Dev nD) (a s : Fin 4) : sProp 𝕄 :=
  match a with
  | 0 => ptsO c 0 (shr s) (oAll m c)
  | 1 => ptsO c s fullShare (oAll m c)
  | 2 => ptsML c 0 (shr s) (mlAll m c)
  | 3 => ptsML c s fullShare (mlAll m c)

omit [FloatOps F] in
instance barPay_storable (c : Dev nD) (d : Fin 4) : BI.Storable (upEmb : UEmb _ 𝕄) (barPay (F := F) c d) := by
  unfold barPay; infer_instance
instance xferPay_storable (c : Dev nD) (a s : Fin 4) : BI.Storable (upEmb : UEmb _ 𝕄) (xferPay m c a s) := by
  unfold xferPay; split <;> infer_instance

/-- The array and the number of a transfer semaphore. -/
def arrOf (q : DmaSem sig) : Fin 4 := ⟨(q.val - 6) / 4 % 4, Nat.mod_lt _ (by decide)⟩
def numOf (q : DmaSem sig) : Fin 4 := ⟨(q.val - 6) % 4, Nat.mod_lt _ (by decide)⟩

theorem arrOf_qS (a s : Fin 4) : arrOf (qS a s) = a := by
  refine Fin.ext ?_
  show ((qS a s).val - 6) / 4 % 4 = a.val
  rw [qS_val]
  have := a.isLt; have := s.isLt
  omega
theorem numOf_qS (a s : Fin 4) : numOf (qS a s) = s := by
  refine Fin.ext ?_
  show ((qS a s).val - 6) % 4 = s.val
  rw [qS_val]
  have := a.isLt; have := s.isLt
  omega

/-- The duties of a semaphore at its one round. -/
def dutiesOf : SemLoc sig → Finset (Fin 4)
  | .reg q => if q = barS then {1, 2, 3} else ∅
  | .dma q => if 6 ≤ q.val ∧ numOf q ≠ 0 then {0} else ∅
def amountOf : SemLoc sig → ℕ
  | .reg _ => 1
  | .dma q => if q.val < 14 then NO else NML
def payOf (c : Dev nD) (d : Fin 4) : SemLoc sig → sProp 𝕄
  | .reg _ => barPay c d
  | .dma q => xferPay m c (arrOf q) (numOf q)

omit [FloatOps F] in
theorem amountOf_pos (g : SemLoc sig) : 0 < amountOf g := by
  cases g with
  | reg q => exact Nat.one_pos
  | dma q =>
    show 0 < if q.val < 14 then NO else NML
    split
    · exact NO_pos
    · exact NML_pos

instance payOf_storable (c : Dev nD) (d : Fin 4) (g : SemLoc sig) : BI.Storable (upEmb : UEmb _ 𝕄) (payOf m c d g) := by
  cases g with
  | reg q => exact barPay_storable c d
  | dma q => exact xferPay_storable m c _ _

/-- One round for every cell. -/
def sched : Rounds.Schedule (GSem nD τ sig) (Fin 4) 𝕄 where
  duties g r := if r = 0 ∧ g.1.2 = .tc then dutiesOf g.2 else ∅
  unitless _ := False
  amount g _ _ := amountOf g.2
  payload g _ d := payOf m g.1.1 d g.2
  amount_pos g _ _ _ := amountOf_pos g.2

instance sched_storable (g : GSem nD τ sig) (r : ℕ) (d : Fin 4) :
    BI.Storable (upEmb : UEmb _ 𝕄) ((sched m).payload g r d) := payOf_storable m g.1.1 d g.2

theorem sched_duties (c : Dev nD) (sm : SemLoc sig) : (sched m).duties ((c : Thread nD τ), sm) 0 = dutiesOf sm := by
  show (if (0 : ℕ) = 0 ∧ (c : Thread nD τ).2 = .tc then dutiesOf sm else ∅) = _
  rw [if_pos ⟨rfl, rfl⟩]
theorem duties_bar (c : Dev nD) : (sched m).duties (barCell c) 0 = {1, 2, 3} := by
  rw [sched_duties]
  show (if barS = barS then ({1, 2, 3} : Finset (Fin 4)) else ∅) = _
  rw [if_pos rfl]
theorem duties_q (a : Fin 4) (c : Dev nD) (s : Fin 4) (hs : s ≠ 0) : (sched m).duties (qCell a c s) 0 = {0} := by
  rw [sched_duties]
  exact if_pos ⟨by rw [qS_val]; omega, by rw [numOf_qS]; exact hs⟩
theorem duties_q_zero (a : Fin 4) (c : Dev nD) (r : ℕ) : (sched m).duties (qCell a c 0) r = ∅ := by
  show (if r = 0 ∧ (qCell a c 0).1.2 = .tc then dutiesOf (.dma (qS a 0)) else ∅) = _
  split
  · exact if_neg fun h => h.2 (numOf_qS a 0)
  · rfl
theorem duties_later (g : GSem nD τ sig) : ∀ r, 1 ≤ r → (sched m).duties g r = ∅ :=
  fun r hr => if_neg fun h => by omega

theorem amount_bar (c : Dev nD) (d : Fin 4) : (sched m).amount (barCell c) 0 d = 1 := rfl
theorem amount_q (a : Fin 4) (c : Dev nD) (s d : Fin 4) :
    (sched m).amount (qCell a c s) 0 d = if a.val < 2 then NO else NML := by
  show (if (qS a s).val < 14 then NO else NML) = _
  rw [qS_val]
  have := s.isLt
  by_cases h : a.val < 2
  · rw [if_pos h, if_pos (by omega)]
  · rw [if_neg h, if_neg (by omega)]

theorem expect_bar (c : Dev nD) : (sched m).expect (barCell c) 0 = 3 := by
  unfold Schedule.expect Schedule.amountOf
  rw [duties_bar, Finset.sum_congr rfl fun d _ => amount_bar m c d]
  rfl
theorem expect_q (a : Fin 4) (c : Dev nD) (s : Fin 4) (hs : s ≠ 0) :
    (sched m).expect (qCell a c s) 0 = if a.val < 2 then NO else NML := by
  unfold Schedule.expect Schedule.amountOf
  rw [duties_q m a c s hs, Finset.sum_singleton, amount_q]

theorem payload_bar (c : Dev nD) (d : Fin 4) : (sched m).payload (barCell c) 0 d = barPay c d := rfl
theorem payload_q (a : Fin 4) (c : Dev nD) (s d : Fin 4) : (sched m).payload (qCell a c s) 0 d = xferPay m c a s := by
  show xferPay m c (arrOf (qS a s)) (numOf (qS a s)) = _
  rw [arrOf_qS, numOf_qS]

theorem rest_bar (c : Dev nD) :
    bigSep ((sched m).duties (barCell c) 0 \ ∅) (fun d => (sched m).payload (barCell c) 0 d)
      = iprop(barPay c 1 ∗ barPay c 2 ∗ barPay c 3) := by
  rw [Finset.sdiff_empty, duties_bar, bigSep_eq_bigSepL_of_eq [1, 2, 3] (by decide) (by decide)]
  rfl
theorem rest_q (a : Fin 4) (c : Dev nD) (s : Fin 4) (hs : s ≠ 0) :
    bigSep ((sched m).duties (qCell a c s) 0 \ ∅) (fun d => (sched m).payload (qCell a c s) 0 d) = xferPay m c a s := by
  rw [Finset.sdiff_empty, duties_q m a c s hs, bigSep_singleton, payload_q]

end Mem

/-! ## What is owed -/

/-- The payments a list of cells asks for. -/
def tally (l : List (Dev nD × Cx)) : CellTallies nD τ sig Unit :=
  l.foldr (fun x acc => acc + tallyAt (kcell x) () (amt x.2)) 0

/-- The cells device `c` pays by its copies, in program order. -/
def copyDues (c : Dev nD) : List (Dev nD × Cx) :=
  [(up c 1, .inr (1, 3)), (up c 1, .inr (3, 3)), (up c 2, .inr (1, 2)), (up c 2, .inr (3, 2)),
   (up c 3, .inr (1, 1)), (up c 3, .inr (3, 1))]
/-- All cells device `c` pays on other devices. -/
def dues (c : Dev nD) : List (Dev nD × Cx) :=
  (up c 1, .inl ()) :: (up c 2, .inl ()) :: (up c 3, .inl ()) :: copyDues c

def O₀ (c : Dev nD) : CellTallies nD τ sig Unit := tally (dues c)

theorem tally_cons (x : Dev nD × Cx) (l) : tally (x :: l) = tally l + tallyAt (kcell x) () (amt x.2) := rfl

theorem tally_pos {l : List (Dev nD × Cx)} {g : GSem nD τ sig} {u : Unit} (h : 0 < tally l g u) : ∃ x ∈ l, g = kcell x := by
  induction l with
  | nil => exact absurd h (Nat.lt_irrefl 0)
  | cons x l ih =>
    rw [tally_cons, Pi.add_apply, Finsupp.add_apply, tallyAt_apply] at h
    by_cases hx : g = kcell x ∧ u = ()
    · exact ⟨x, List.mem_cons_self, hx.1⟩
    · rw [if_neg hx, Nat.add_zero] at h
      obtain ⟨y, hy, hg⟩ := ih h
      exact ⟨y, List.mem_cons_of_mem _ hy, hg⟩

theorem tally_apply (l : List (Dev nD × Cx)) (x : Dev nD × Cx) : tally l (kcell x) () = l.countP (fun y => decide (y = x)) * amt x.2 := by
  induction l with
  | nil => rw [List.countP_nil, Nat.zero_mul]; rfl
  | cons y l ih =>
    rw [tally_cons, Pi.add_apply, Finsupp.add_apply, tallyAt_apply, ih, List.countP_cons]
    by_cases hy : y = x
    · subst hy
      rw [if_pos ⟨rfl, rfl⟩, if_pos (decide_eq_true rfl), Nat.add_mul, Nat.one_mul]
    · rw [if_neg (fun h => hy (kcell_injective h.1).symm), if_neg (fun h => hy (of_decide_eq_true h)), Nat.add_zero, Nat.add_zero]

def L (g : GSem nD τ sig) : Finset Unit := if g.1.2 = .tc then {()} else ∅
/-- Barrier cells come before receive cells; everything else is before both. -/
def lv (g : GSem nD τ sig) (_ : Unit) : ℕ :=
  match g.2 with
  | .reg _ => 1
  | .dma q => if 6 ≤ q.val ∧ ((arrOf q).val = 1 ∨ (arrOf q).val = 3) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_recv (a : Fin 4) (c : Dev nD) (s : Fin 4) (ha : a.val = 1 ∨ a.val = 3) : lv (qCell a c s) () = 2 := by
  show (if 6 ≤ (qS a s).val ∧ ((arrOf (qS a s)).val = 1 ∨ (arrOf (qS a s)).val = 3) then 2 else 0) = 2
  rw [if_pos ⟨by rw [qS_val]; omega, by rw [arrOf_qS]; exact ha⟩]

theorem lv_copyDues {c : Dev nD} {x : Dev nD × Cx} (hx : x ∈ copyDues c) : lv (kcell x) () = 2 := by
  unfold copyDues at hx
  simp only [List.mem_cons, List.not_mem_nil, or_false] at hx
  rcases hx with rfl | rfl | rfl | rfl | rfl | rfl <;> exact lv_recv _ _ _ (by decide)
theorem lv_dues {c : Dev nD} {x : Dev nD × Cx} (hx : x ∈ dues c) : 0 < lv (kcell x) () := by
  unfold dues at hx
  rcases List.mem_cons.mp hx with rfl | hx
  · exact Nat.one_pos
  rcases List.mem_cons.mp hx with rfl | hx
  · exact Nat.one_pos
  rcases List.mem_cons.mp hx with rfl | hx
  · exact Nat.one_pos
  · rw [lv_copyDues hx]; decide

omit [FloatOps F] in
/-- A wait on a cell of level 0 is allowed while everything is owed, and while nothing is. -/
theorem mayWait_low (c : Dev nD) (sm : SemLoc sig) (hq : lv ((c : Thread nD τ), sm) () = 0)
    (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0
      (fun p hp => by rw [Finset.mem_singleton.mp hp, L_tc]; exact Finset.mem_singleton_self _)
      (fun g u hg => by obtain ⟨x, hx, rfl⟩ := tally_pos hg; exact Finset.mem_singleton_self _)
      (fun p hp => by rw [Finset.mem_singleton.mp hp]; exact le_of_eq hq)
      (fun g u hg => by obtain ⟨x, hx, rfl⟩ := tally_pos hg; exact lv_dues hx)
  · rw [MayWait_zero]; iintro -; iempintro

omit [FloatOps F] in
/-- The barrier wait is allowed while the copies are owed. -/
theorem mayWait_bar (c : Dev nD) :
    (levAts L lv : sProp 𝕄) ⊢ MayWait (c : Thread nD τ) (.reg barS) () (tally (copyDues c)) :=
  MayOwe.of_cut (L := L) (lev := lv) 1
    (fun p hp => by rw [Finset.mem_singleton.mp hp, L_tc]; exact Finset.mem_singleton_self _)
    (fun g u hg => by obtain ⟨x, hx, rfl⟩ := tally_pos hg; exact Finset.mem_singleton_self _)
    (fun p hp => by rw [Finset.mem_singleton.mp hp]; exact le_of_eq (lv_bar c))
    (fun g u hg => by obtain ⟨x, hx, rfl⟩ := tally_pos hg; rw [lv_copyDues hx]; decide)

end Cert.KernelIdeal.Attn
-- ==== Proof.Local.lean ====
/- What a core does alone: it computes the sixteen heads into the own slots. And how the exchange buffers
   are taken apart into their four slots and put together. -/
module

public import proofs.«01_k».proof.Proof.Protocol

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A vector buffer of device `c`, whole. -/
abbrev held (c : Dev nD) (b : Ref sig .tc) (f : Buf (Elt F) (((c : Dev nD) : Thread nD τ).loc b)) : sProp 𝕄 :=
  ((c : Thread nD τ).loc b) ↦{fullShare} f

/-! ## Slots -/

omit [FloatOps F] in
theorem split_slots {ℓ : Loc nD τ sig} (K : Fin 4 → Finset (Idx ℓ)) (hd : ∀ s t, s ≠ t → Disjoint (K s) (K t))
    (hu : ∀ i, ∃ s, i ∈ K s) (q : PosShare TreeShare) (f : Buf (Elt F) ℓ) :
    (ℓ ↦{q} f : sProp 𝕄) = iprop((ℓ ↦[K 0]{q} f) ∗ (ℓ ↦[K 1]{q} f) ∗ (ℓ ↦[K 2]{q} f) ∗ (ℓ ↦[K 3]{q} f)) := by
  have hU : (Finset.univ : Finset (Idx ℓ)) = Finset.univ.biUnion K :=
    (Finset.eq_univ_of_forall fun i => by obtain ⟨s, hs⟩ := hu i; exact Finset.mem_biUnion.mpr ⟨s, Finset.mem_univ _, hs⟩).symm
  rw [hU, pointsTo_biUnion _ _ (fun s _ t _ h => hd s t h), bigSep_univ_eq_bigSepL [0, 1, 2, 3] (by decide) (by decide)]
  rfl

omit [FloatOps F] in
theorem heldO_split (c : Dev nD) (q : PosShare TreeShare) (f : Cont F cc0_scratch0) :
    (((c : Thread nD τ).loc cc0_scratch0) ↦{q} f : sProp 𝕄)
      = iprop(ptsO c 0 q f ∗ ptsO c 1 q f ∗ ptsO c 2 q f ∗ ptsO c 3 q f) :=
  split_slots (ℓ := (c : Thread nD τ).loc cc0_scratch0) (fun s => (slotO oM s).view.set)
    (fun s t h => Finset.disjoint_left.mpr fun i hi hj => h (((mem_slotO s i).mp hi).symm.trans ((mem_slotO t i).mp hj)))
    (fun i => ⟨(i : S4x16x16x64.Idx) 0, (mem_slotO _ i).mpr rfl⟩) q f
omit [FloatOps F] in
theorem heldML_split (c : Dev nD) (q : PosShare TreeShare) (f : Cont F cc0_scratch1) :
    (((c : Thread nD τ).loc cc0_scratch1) ↦{q} f : sProp 𝕄)
      = iprop(ptsML c 0 q f ∗ ptsML c 1 q f ∗ ptsML c 2 q f ∗ ptsML c 3 q f) :=
  split_slots (ℓ := (c : Thread nD τ).loc cc0_scratch1) (fun s => (slotML mlM s).view.set)
    (fun s t h => Finset.disjoint_left.mpr fun i hi hj => h (((mem_slotML s i).mp hi).symm.trans ((mem_slotML t i).mp hj)))
    (fun i => ⟨(i : S4x2x16x16x1.Idx) 0, (mem_slotML _ i).mpr rfl⟩) q f

omit [FloatOps F] in
theorem share_eq2 (q : PosShare TreeShare) {ℓ : Loc nD τ sig} {I : Finset (Idx ℓ)} {f : Buf (Elt F) ℓ} :
    (ℓ ↦[I]{q} f : sProp 𝕄) = iprop((ℓ ↦[I]{q.left} f) ∗ ℓ ↦[I]{q.right} f) :=
  BI.Entails.antisymm (pointsTo_share (PosShare.mem_left_op_right q)).1 (pointsTo_share (PosShare.mem_left_op_right q)).2

omit [FloatOps F] in
/-- A slot at the full share is the slot at the three shares the copies take. -/
theorem ptsO_shares (c : Dev nD) (s : Fin 4) (f : Cont F cc0_scratch0) :
    (ptsO c s fullShare f : sProp 𝕄) = iprop(ptsO c s (shr 1) f ∗ ptsO c s (shr 2) f ∗ ptsO c s (shr 3) f) := by
  unfold ptsO
  rw [share_eq2 fullShare,
    share_eq2 fullShare.right]
omit [FloatOps F] in
theorem ptsML_shares (c : Dev nD) (s : Fin 4) (f : Cont F cc0_scratch1) :
    (ptsML c s fullShare f : sProp 𝕄) = iprop(ptsML c s (shr 1) f ∗ ptsML c s (shr 2) f ∗ ptsML c s (shr 3) f) := by
  unfold ptsML
  rw [share_eq2 fullShare,
    share_eq2 fullShare.right]

section Mem

variable (m : (ℓ : Loc nD τ sig) → Buf (Elt F) ℓ)

/-- The own slots after the heads hold the device's results. -/
theorem ptsO_own (c : Dev nD) (q : PosShare TreeShare) (f : Cont F cc0_scratch0) :
    (ptsO c 0 q (fillO m c headList f) : sProp 𝕄) = ptsO c 0 q (oAll m c) :=
  pointsTo_congr fun i hi => fillO_own m c f i (congrArg Fin.val ((mem_slotO 0 i).mp hi))
theorem ptsML_own (c : Dev nD) (q : PosShare TreeShare) (f : Cont F cc0_scratch1) :
    (ptsML c 0 q (fillML m c headList f) : sProp 𝕄) = ptsML c 0 q (mlAll m c) :=
  pointsTo_congr fun i hi => fillML_own m c f i (congrArg Fin.val ((mem_slotML 0 i).mp hi))

/-! ## The heads -/

/-- The queries, keys and values of a device. -/
def inputs (c : Dev nD) : sProp 𝕄 :=
  iprop(held c cc0_stg0_0 (xq m c) ∗ held c cc0_stg1_0 (xk m c) ∗ held c cc0_stg2_0 (xv m c))

theorem wp_heads (c : Dev nD) (l : List (Fin 16)) (k : TcProg F PUnit) (Q : PUnit → sProp 𝕄)
    (f6 : Cont F cc0_scratch0) (f7 : Cont F cc0_scratch1) :
    iprop(inputs m c ∗ held c cc0_scratch0 f6 ∗ held c cc0_scratch1 f7
        ∗ ((inputs m c ∗ held c cc0_scratch0 (fillO m c l f6) ∗ held c cc0_scratch1 (fillML m c l f7))
            -∗ wp frame (wpE (defs₀ (F := F)) 𝒱₀ (c : Thread nD τ) none) Set.univ k Q))
      ⊢ wp frame (wpE (defs₀ (F := F)) 𝒱₀ (c : Thread nD τ) none) Set.univ
          (heads qM kM vM oM mlM (wgt m c) (cnt m c) l k) Q := by
  induction l generalizing f6 f7 with
  | nil =>
    iintro ⟨Hi, H6, H7, Hk⟩
    iapply Hk
    isplitl [Hi]; · iexact Hi
    isplitl [H6]; · iexact H6
    iexact H7
  | cons h l ih =>
    show _ ⊢ wp _ _ _ (headStep qM kM vM oM mlM (wgt m c) (cnt m c) h >>= fun _ => heads qM kM vM oM mlM (wgt m c) (cnt m c) l k) Q
    unfold headStep
    simp only [Prog.lift, Prog.bind_op, Prog.bind_ret]
    unfold inputs
    iintro ⟨⟨Hq, HK, Hv⟩, H6, H7, Hk⟩
    iapply (wp_load 𝒱₀ (c : Thread nD τ) none Set.univ (m := qM) (Finset.subset_univ _)) $$ Hq; iintro Hq
    iapply (wp_load 𝒱₀ (c : Thread nD τ) none Set.univ (m := kM) (Finset.subset_univ _)) $$ HK; iintro HK
    iapply (wp_load 𝒱₀ (c : Thread nD τ) none Set.univ (m := vM) (Finset.subset_univ _)) $$ Hv; iintro Hv
    iapply (wp_load 𝒱₀ (c : Thread nD τ) none Set.univ (m := oM) (Finset.subset_univ _)) $$ H6; iintro H6
    iapply (wp_store 𝒱₀ (c : Thread nD τ) none Set.univ (m := oM) (r := rowO h) (Mk := Finset.univ) (Finset.subset_univ _)) $$ H6; iintro H6
    iapply (wp_load 𝒱₀ (c : Thread nD τ) none Set.univ (m := mlM) (Finset.subset_univ _)) $$ H7; iintro H7
    iapply (wp_store 𝒱₀ (c : Thread nD τ) none Set.univ (m := mlM) (r := rowML 0 h) (Mk := Finset.univ) (Finset.subset_univ _)) $$ H7; iintro H7
    iapply (wp_load 𝒱₀ (c : Thread nD τ) none Set.univ (m := mlM) (Finset.subset_univ _)) $$ H7; iintro H7
    iapply (wp_store 𝒱₀ (c : Thread nD τ) none Set.univ (m := mlM) (r := rowML 1 h) (Mk := Finset.univ) (Finset.subset_univ _)) $$ H7; iintro H7
    iapply (ih ((oM.access (rowO h)).write (Elt F) f6 (rO m c h) Finset.univ)
      ((mlM.access (rowML 1 h)).write (Elt F) ((mlM.access (rowML 0 h)).write (Elt F) f7 (rM m c h) Finset.univ) (rL m c h) Finset.univ))
    unfold inputs
    isplitl [Hq HK Hv]
    · isplitl [Hq]; · iexact Hq
      isplitl [HK]; · iexact HK
      iexact Hv
    isplitl [H6]; · iexact H6
    isplitl [H7]; · iexact H7
    iexact Hk

end Mem

end Cert.KernelIdeal.Attn
-- ==== Proof.Exchange.lean ====
/- The steps of the exchange as rules: one copy of either kind, and the four waits that belong to one
   distance. -/
module

public import proofs.«01_k».proof.Proof.Local

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cx → ℕ)

/-- Every cell's invariant, under the name `K` gives it, and that every cell is at its round. -/
def records : sProp 𝕄 :=
  iprop((bigSep Finset.univ fun ck : Dev nD × Cx => cellInv ER (sched m) (K ck) (kcell ck))
    ∗ bigSep Finset.univ fun ck : Dev nD × Cx => reached ER (kcell ck) 0)

instance records_persistent : BI.Persistent (records m K) := by unfold records; infer_instance

theorem inv_at (ck : Dev nD × Cx) : records m K ⊢ cellInv ER (sched m) (K ck) (kcell ck) := by
  unfold records
  iintro ⟨H, -⟩
  ihave H := (show (bigSep Finset.univ fun ck : Dev nD × Cx => (cellInv ER (sched m) (K ck) (kcell ck) : sProp 𝕄))
    ⊢ cellInv ER (sched m) (K ck) (kcell ck) from bigSep_elim (Finset.mem_univ ck)) $$ H
  iexact H
theorem reached_at (ck : Dev nD × Cx) : records m K ⊢ (reached ER (kcell ck) 0 : sProp 𝕄) := by
  unfold records
  iintro ⟨-, H⟩
  ihave H := (show (bigSep Finset.univ fun ck : Dev nD × Cx => (reached ER (kcell ck) 0 : sProp 𝕄))
    ⊢ reached ER (kcell ck) 0 from bigSep_elim (Finset.mem_univ ck)) $$ H
  iexact H

theorem payO_send (c : Dev nD) (d x : Fin 4) : (sched m).payload (qCell 0 c d) 0 x = ptsO c 0 (shr d) (oAll m c) := payload_q m 0 c d x
theorem payO_recv (c : Dev nD) (d x : Fin 4) : (sched m).payload (qCell 1 c d) 0 x = ptsO c d fullShare (oAll m c) := payload_q m 1 c d x
theorem payML_send (c : Dev nD) (d x : Fin 4) : (sched m).payload (qCell 2 c d) 0 x = ptsML c 0 (shr d) (mlAll m c) := payload_q m 2 c d x
theorem payML_recv (c : Dev nD) (d x : Fin 4) : (sched m).payload (qCell 3 c d) 0 x = ptsML c d fullShare (mlAll m c) := payload_q m 3 c d x

omit [FloatOps F] in
theorem amountO (s : Fin 4) (q : DmaSem sig) : (slotO oM s).view.amount (.dma q) = NO := rfl
omit [FloatOps F] in
theorem amountML (s : Fin 4) (q : DmaSem sig) : (slotML mlM s).view.amount (.dma q) = NML := rfl
omit [FloatOps F] in
theorem tallyO (p : Dev nD) (s : Fin 4) (l) : tally ((p, .inr (1, s)) :: l) = tally l + tallyAt (qCell 1 p s) () NO := rfl
omit [FloatOps F] in
theorem tallyML (p : Dev nD) (s : Fin 4) (l) : tally ((p, .inr (3, s)) :: l) = tally l + tallyAt (qCell 3 p s) () NML := rfl

/-- The copy of the own weighted values to the device `d` places further. -/
theorem wp_copyO (c p : Dev nD) (d s : Fin 4) (hd : d ≠ 0) (hs : s ≠ 0) (hp : up p s = c) (fn : Cont F cc0_scratch0)
    (l : List (Dev nD × Cx)) (W : Waits sig Unit) (k : PUnit → TcProg F PUnit) (Q : PUnit → sProp 𝕄) :
    iprop(records m K ∗ ptsO c 0 (shr d) (oAll m c) ∗ ptsO p s fullShare fn
        ∗ owes (c : Thread nD τ) (tally ((p, .inr (1, s)) :: l)) W
        ∗ dutyTok ER (qCell 0 c d) 0 0 ∗ dutyTok ER (qCell 1 p s) 0 0)
      ⊢ iprop(((cred (tallyAt (qCell 0 c d) () NO) ∗ owes (c : Thread nD τ) (tally l) W)
            -∗ wp frame (wpE (defs₀ (F := F)) 𝒱₀ (c : Thread nD τ) none) Set.univ (k ⟨⟩) Q)
          -∗ wp frame (wpE (defs₀ (F := F)) 𝒱₀ (c : Thread nD τ) none) Set.univ
              (copyO oM cc0_scratch2 cc0_scratch3 p d s >>= k) Q) := by
  unfold copyO
  simp only [Prog.lift, Prog.bind_op, Prog.bind_ret]
  iintro ⟨#HR, Hs, Hd, HO, Ht, Ht'⟩
  iapply (Rounds.wp_send_pointsTo 𝒱₀ ER (sched m) (c : Thread nD τ) none (κ₁ := K (c, .inr (0, d))) (κ₂ := K (p, .inr (1, s)))
    (r₁ := 0) (r₂ := 0) (d₁ := 0) (d₂ := 0) (fs := oAll m c) (fd := fn) (q := shr d)
    (by rw [duties_q m 0 c d hd]; exact Finset.mem_singleton_self _)
    (by rw [duties_q m 1 p s hs]; exact Finset.mem_singleton_self _)
    () () NO (amountO s _) (amount_q m 0 c d 0) (amount_q m 1 p s 0) (tally l) (tallyO p s l) (W := W)
    (by rw [payO_send]; exact BI.Entails.refl _)
    (by
      rw [payO_recv]
      exact Entails.of_eq (pointsTo_congr fun i hi => landO m c p s hp fn i hi)))
  isplitr; · iapply (inv_at m K (c, .inr (0, d))); iexact HR
  isplitr; · iapply (inv_at m K (p, .inr (1, s))); iexact HR
  isplitl [Hs]; · unfold ptsO; iexact Hs
  isplitl [Hd]; · unfold ptsO; iexact Hd
  isplitl [HO]; · iexact HO
  isplitl [Ht]; · iexact Ht
  isplitr; · iapply (reached_at m K (c, .inr (0, d))); iexact HR
  isplitl [Ht']; · iexact Ht'
  iapply (reached_at m K (p, .inr (1, s))); iexact HR

/-- The copy of the own maxima and sums to the device `d` places further. -/
theorem wp_copyML (c p : Dev nD) (d s : Fin 4) (hd : d ≠ 0) (hs : s ≠ 0) (hp : up p s = c) (fn : Cont F cc0_scratch1)
    (l : List (Dev nD × Cx)) (W : Waits sig Unit) (k : PUnit → TcProg F PUnit) (Q : PUnit → sProp 𝕄) :
    iprop(records m K ∗ ptsML c 0 (shr d) (mlAll m c) ∗ ptsML p s fullShare fn
        ∗ owes (c : Thread nD τ) (tally ((p, .inr (3, s)) :: l)) W
        ∗ dutyTok ER (qCell 2 c d) 0 0 ∗ dutyTok ER (qCell 3 p s) 0 0)
      ⊢ iprop(((cred (tallyAt (qCell 2 c d) () NML) ∗ owes (c : Thread nD τ) (tally l) W)
            -∗ wp frame (wpE (defs₀ (F := F)) 𝒱₀ (c : Thread nD τ) none) Set.univ (k ⟨⟩) Q)
          -∗ wp frame (wpE (defs₀ (F := F)) 𝒱₀ (c : Thread nD τ) none) Set.univ
              (copyML mlM cc0_scratch4 cc0_scratch5 p d s >>= k) Q) := by
  unfold copyML
  simp only [Prog.lift, Prog.bind_op, Prog.bind_ret]
  iintro ⟨#HR, Hs, Hd, HO, Ht, Ht'⟩
  iapply (Rounds.wp_send_pointsTo 𝒱₀ ER (sched m) (c : Thread nD τ) none (κ₁ := K (c, .inr (2, d))) (κ₂ := K (p, .inr (3, s)))
    (r₁ := 0) (r₂ := 0) (d₁ := 0) (d₂ := 0) (fs := mlAll m c) (fd := fn) (q := shr d)
    (by rw [duties_q m 2 c d hd]; exact Finset.mem_singleton_self _)
    (by rw [duties_q m 3 p s hs]; exact Finset.mem_singleton_self _)
    () () NML (amountML s _) (amount_q m 2 c d 0) (amount_q m 3 p s 0) (tally l) (tallyML p s l) (W := W)
    (by rw [payML_send]; exact BI.Entails.refl _)
    (by
      rw [payML_recv]
      exact Entails.of_eq (pointsTo_congr fun i hi => landML m c p s hp fn i hi)))
  isplitr; · iapply (inv_at m K (c, .inr (2, d))); iexact HR
  isplitr; · iapply (inv_at m K (p, .inr (3, s))); iexact HR
  isplitl [Hs]; · unfold ptsML; iexact Hs
  isplitl [Hd]; · unfold ptsML; iexact Hd
  isplitl [HO]; · iexact HO
  isplitl [Ht]; · iexact Ht
  isplitr; · iapply (reached_at m K (c, .inr (2, d))); iexact HR
  isplitl [Ht']; · iexact Ht'
  iapply (reached_at m K (p, .inr (3, s))); iexact HR

/-- A statement about the four transfer cells used with distance `d`: those the copies of distance `d` free, and those the
    copies from the other direction fill. -/
def four (Φ : SemLoc sig → sProp 𝕄) (d s : Fin 4) : sProp 𝕄 :=
  iprop(Φ (.dma (qS 0 d)) ∗ Φ (.dma (qS 1 s)) ∗ Φ (.dma (qS 2 d)) ∗ Φ (.dma (qS 3 s)))

/-- The start position of a cell of `c`. -/
abbrev pos0 (c : Dev nD) : SemLoc sig → sProp 𝕄 := fun sm => atPos ER ((c : Thread nD τ), sm) 0 ∅ 0
/-- A cell of `c` at zero. -/
abbrev zero0 (c : Dev nD) : SemLoc sig → sProp 𝕄 := fun sm => semVal ((c : Thread nD τ), sm) 0

/-- What the four waits need. -/
def waitPre (c : Dev nD) (d s : Fin 4) : sProp 𝕄 :=
  iprop(cred (tallyAt (qCell 0 c d) () NO) ∗ cred (tallyAt (qCell 1 c s) () NO)
    ∗ cred (tallyAt (qCell 2 c d) () NML) ∗ cred (tallyAt (qCell 3 c s) () NML) ∗ four (pos0 c) d s)
/-- What they bring. -/
def waitPost (c : Dev nD) (d s : Fin 4) : sProp 𝕄 :=
  iprop(ptsO c 0 (shr d) (oAll m c) ∗ ptsO c s fullShare (oAll m c)
    ∗ ptsML c 0 (shr d) (mlAll m c) ∗ ptsML c s fullShare (mlAll m c) ∗ four (zero0 c) d s)

theorem wp_waits (c : Dev nD) (d s : Fin 4) (hd : d ≠ 0) (hs : s ≠ 0) (k : PUnit → TcProg F PUnit) (Q : PUnit → sProp 𝕄) :
    iprop(records m K ∗ waitPre c d s ∗ (∃ W, owes (c : Thread nD τ) 0 W))
      ⊢ iprop(((waitPost m c d s ∗ ∃ W, owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (waits oM mlM cc0_scratch2 cc0_scratch3 cc0_scratch4 cc0_scratch5 d s >>= k) Q) := by
  unfold waits
  simp only [Prog.lift, Prog.bind_op, Prog.bind_ret]
  unfold waitPre four
  iintro ⟨#HR, ⟨Hc0, Hc1, Hc2, Hc3, Ha0, Ha1, Ha2, Ha3⟩, ⟨%W, HO⟩⟩ Hk
  iapply (Rounds.wp_wait_rest_token 𝒱₀ ER (sched m) (c : Thread nD τ) none (κ := K (c, .inr (0, d)))
      (wpE_waitDma2_eq 𝒱₀ (c : Thread nD τ) none Set.univ) (Set.mem_univ _) () (O := 0) (W := W) (R := 0) (m := 0) (T := ∅)
      (by rw [Nat.zero_add]; exact (expect_q m 0 c d hd).symm)) $$ [Hc0 HO Ha0]
  · isplitr; · iapply (inv_at m K (c, .inr (0, d))); iexact HR
    isplitl [Hc0]; · iexact Hc0
    isplitl [HO]; · iexact HO
    isplitr; · rw [MayWait_zero]; iempintro
    iexact Ha0
  iintro ⟨HO, Ha0, -, Hp0⟩
  iapply (Rounds.wp_wait_rest_token 𝒱₀ ER (sched m) (c : Thread nD τ) none (κ := K (c, .inr (1, s)))
      (wpE_waitDma2_eq 𝒱₀ (c : Thread nD τ) none Set.univ) (Set.mem_univ _) () (O := 0) (R := 0) (m := 0) (T := ∅)
      (by rw [Nat.zero_add]; exact (expect_q m 1 c s hs).symm)) $$ [Hc1 HO Ha1]
  · isplitr; · iapply (inv_at m K (c, .inr (1, s))); iexact HR
    isplitl [Hc1]; · iexact Hc1
    isplitl [HO]; · iexact HO
    isplitr; · rw [MayWait_zero]; iempintro
    iexact Ha1
  iintro ⟨HO, Ha1, -, Hp1⟩
  iapply (Rounds.wp_wait_rest_token 𝒱₀ ER (sched m) (c : Thread nD τ) none (κ := K (c, .inr (2, d)))
      (wpE_waitDma2_eq 𝒱₀ (c : Thread nD τ) none Set.univ) (Set.mem_univ _) () (O := 0) (R := 0) (m := 0) (T := ∅)
      (by rw [Nat.zero_add]; exact (expect_q m 2 c d hd).symm)) $$ [Hc2 HO Ha2]
  · isplitr; · iapply (inv_at m K (c, .inr (2, d))); iexact HR
    isplitl [Hc2]; · iexact Hc2
    isplitl [HO]; · iexact HO
    isplitr; · rw [MayWait_zero]; iempintro
    iexact Ha2
  iintro ⟨HO, Ha2, -, Hp2⟩
  iapply (Rounds.wp_wait_rest_token 𝒱₀ ER (sched m) (c : Thread nD τ) none (κ := K (c, .inr (3, s)))
      (wpE_waitDma2_eq 𝒱₀ (c : Thread nD τ) none Set.univ) (Set.mem_univ _) () (O := 0) (R := 0) (m := 0) (T := ∅)
      (by rw [Nat.zero_add]; exact (expect_q m 3 c s hs).symm)) $$ [Hc3 HO Ha3]
  · isplitr; · iapply (inv_at m K (c, .inr (3, s))); iexact HR
    isplitl [Hc3]; · iexact Hc3
    isplitl [HO]; · iexact HO
    isplitr; · rw [MayWait_zero]; iempintro
    iexact Ha3
  iintro ⟨HO, Ha3, -, Hp3⟩
  ihave Hp0 := (Entails.of_eq ((rest_q m 0 c d hd).trans (show xferPay m c 0 d = ptsO c 0 (shr d) (oAll m c) from rfl))) $$ Hp0
  ihave Hp1 := (Entails.of_eq ((rest_q m 1 c s hs).trans (show xferPay m c 1 s = ptsO c s fullShare (oAll m c) from rfl))) $$ Hp1
  ihave Hp2 := (Entails.of_eq ((rest_q m 2 c d hd).trans (show xferPay m c 2 d = ptsML c 0 (shr d) (mlAll m c) from rfl))) $$ Hp2
  ihave Hp3 := (Entails.of_eq ((rest_q m 3 c s hs).trans (show xferPay m c 3 s = ptsML c s fullShare (mlAll m c) from rfl))) $$ Hp3
  imod (Rounds.cell_close ER (sched m) (Set.mem_univ (K (c, .inr (0, d)))) (fun h => h) (R := 0 + 1) (duties_later m (qCell 0 c d))) $$ [Ha0] with Hz0
  · isplitr; · iapply (inv_at m K (c, .inr (0, d))); iexact HR
    iexact Ha0
  imod (Rounds.cell_close ER (sched m) (Set.mem_univ (K (c, .inr (1, s)))) (fun h => h) (R := 0 + 1) (duties_later m (qCell 1 c s))) $$ [Ha1] with Hz1
  · isplitr; · iapply (inv_at m K (c, .inr (1, s))); iexact HR
    iexact Ha1
  imod (Rounds.cell_close ER (sched m) (Set.mem_univ (K (c, .inr (2, d)))) (fun h => h) (R := 0 + 1) (duties_later m (qCell 2 c d))) $$ [Ha2] with Hz2
  · isplitr; · iapply (inv_at m K (c, .inr (2, d))); iexact HR
    iexact Ha2
  imod (Rounds.cell_close ER (sched m) (Set.mem_univ (K (c, .inr (3, s)))) (fun h => h) (R := 0 + 1) (duties_later m (qCell 3 c s))) $$ [Ha3] with Hz3
  · isplitr; · iapply (inv_at m K (c, .inr (3, s))); iexact HR
    iexact Ha3
  iapply Hk
  isplitr [HO]
  · unfold waitPost four
    isplitl [Hp0]; · iexact Hp0
    isplitl [Hp1]; · iexact Hp1
    isplitl [Hp2]; · iexact Hp2
    isplitl [Hp3]; · iexact Hp3
    isplitl [Hz0]; · iexact Hz0
    isplitl [Hz1]; · iexact Hz1
    isplitl [Hz2]; · iexact Hz2
    iexact Hz3
  · iexists _; iexact HO

end Cert.KernelIdeal.Attn
-- ==== Proof.Body.lean ====
/- The whole kernel function on one device, run from what the launch deals the device to what it leaves. -/
module

public import proofs.«01_k».proof.Proof.Exchange

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What a device starts from and what it leaves -/

/-- The tokens of the payments device `c` makes at distance `d`, where its copies land in slot `s`. -/
def pays (c : Dev nD) (d s : Fin 4) : sProp 𝕄 :=
  iprop(dutyTok ER (barCell (up c d)) 0 d ∗ dutyTok ER (qCell 0 c d) 0 0 ∗ dutyTok ER (qCell 1 (up c d) s) 0 0
    ∗ dutyTok ER (qCell 2 c d) 0 0 ∗ dutyTok ER (qCell 3 (up c d) s) 0 0)

/-- The positions and the tokens of device `c`. -/
def linear (c : Dev nD) : sProp 𝕄 :=
  iprop((pos0 c (.reg barS) ∗ four (pos0 c) 0 0 ∗ four (pos0 c) 1 3 ∗ four (pos0 c) 2 2 ∗ four (pos0 c) 3 1)
    ∗ (pays c 0 0 ∗ pays c 1 3 ∗ pays c 2 2 ∗ pays c 3 1))

/-- The credit of the two receive cells numbered `s`. -/
def recvCred (c : Dev nD) (s : Fin 4) : sProp 𝕄 :=
  iprop(cred (tallyAt (qCell 1 c s) () NO) ∗ cred (tallyAt (qCell 3 c s) () NML))
/-- The credit of device `c` at launch. -/
def creds (c : Dev nD) : sProp 𝕄 :=
  iprop(cred (tallyAt (barCell c) () 3) ∗ recvCred c 1 ∗ recvCred c 2 ∗ recvCred c 3)

/-- All transfer cells of `c`, and its barrier, at zero. -/
def zeros (c : Dev nD) : sProp 𝕄 :=
  iprop((four (zero0 c) 0 0 ∗ four (zero0 c) 1 3 ∗ four (zero0 c) 2 2 ∗ four (zero0 c) 3 1) ∗ semVal (barCell c) 0)

section Mem

variable (m : (ℓ : Loc nD τ sig) → Buf (Elt F) ℓ)

/-- What the launch deals device `c`. -/
def start (c : Dev nD) : sProp 𝕄 := iprop((∃ K, records m K ∗ linear c) ∗ creds c ∗ levAts L lv)

/-- Before the body: that, and the two exchange buffers at any contents. -/
def Φ₀ (c : Dev nD) : sProp 𝕄 := iprop(start m c ∗ (∃ f, held c cc0_scratch0 f) ∗ (∃ f, held c cc0_scratch1 f))
/-- After it: the buffers filled, and all cells at zero. -/
def Φ₁ (c : Dev nD) : sProp 𝕄 := iprop(held c cc0_scratch0 (oAll m c) ∗ held c cc0_scratch1 (mlAll m c) ∗ zeros c)

/-! ## The handshake, one signal -/

/-- The unit for the device `d` places further hands over slot `d` of the own buffers. -/
theorem wp_signalBar (K : Dev nD × Cx → ℕ) (c p : Dev nD) (d : Fin 4) (hd : d = 1 ∨ d = 2 ∨ d = 3) (hp : dn p d = c)
    (l : List (Dev nD × Cx)) (W : Waits sig Unit) (k : PUnit → TcProg F PUnit) (Q : PUnit → sProp 𝕄) :
    iprop(records m K ∗ (∃ f, ptsO c d fullShare f) ∗ (∃ f, ptsML c d fullShare f)
        ∗ owes (c : Thread nD τ) (tally ((p, .inl ()) :: l)) W ∗ dutyTok ER (barCell p) 0 d)
      ⊢ iprop((owes (c : Thread nD τ) (tally l) W
            -∗ wp frame (wpE (defs₀ (F := F)) 𝒱₀ (c : Thread nD τ) none) Set.univ (k ⟨⟩) Q)
          -∗ wp frame (wpE (defs₀ (F := F)) 𝒱₀ (c : Thread nD τ) none) Set.univ
              (semSignalWord (p : Dev nD) barS 1#32 >>= k) Q) := by
  simp only [semSignalWord, Prog.lift, Prog.bind_op, Prog.bind_ret]
  iintro ⟨#HR, Ho, Hml, HO, Ht⟩ Hk
  iapply (Rounds.wp_signal 𝒱₀ ER (sched m) (c : Thread nD τ) none (dst := (p : Thread nD τ)) (κ := K (p, .inl ()))
      (d := d) (by rw [duties_bar]; rcases hd with rfl | rfl | rfl <;> decide) ((amount_bar m p d).trans (by decide)) () (tally l) rfl)
    $$ [HO Ht Ho Hml]
  · isplitr; · iapply (inv_at m K (p, .inl ())); iexact HR
    isplitl [HO]; · iexact HO
    isplitl [Ht]; · iexact Ht
    isplitl [Ho Hml]
    · rw [payload_bar]; unfold barPay; rw [hp]
      isplitl [Ho] <;> iassumption
    iapply (reached_at m K (p, .inl ())); iexact HR
  iexact Hk

/-! ## The combination -/

omit [FloatOps F] in
theorem hz4 : (![0, 0, 0, 0] : Fin 4 → Nat) = fun _ => 0 := funext fun a => by fin_cases a <;> rfl
omit [FloatOps F] in
theorem hz2 : (![0, 0] : Fin 2 → Nat) = fun _ => 0 := funext fun a => by fin_cases a <;> rfl

theorem wp_combine (c : Dev nD) (k : PUnit → TcProg F PUnit) (Q : PUnit → sProp 𝕄) (g : Cont F cc0_stg5_0) :
    iprop(held c cc0_scratch0 (oAll m c) ∗ held c cc0_scratch1 (mlAll m c) ∗ held c cc0_stg5_0 g)
      ⊢ iprop(((held c cc0_scratch0 (oAll m c) ∗ held c cc0_scratch1 (mlAll m c) ∗ held c cc0_stg5_0 (res m c))
            -∗ wp frame (wpE (defs₀ (F := F)) 𝒱₀ (c : Thread nD τ) none) Set.univ (k ⟨⟩) Q)
          -∗ wp frame (wpE (defs₀ (F := F)) 𝒱₀ (c : Thread nD τ) none) Set.univ (combine outM oM mlM >>= k) Q) := by
  unfold combine
  simp only [Prog.lift, Prog.bind_op, Prog.bind_ret]
  iintro ⟨H6, H7, H5⟩ Hk
  iapply (wp_load 𝒱₀ (c : Thread nD τ) none Set.univ (m := mlM) (Finset.subset_univ _)) $$ H7; iintro H7
  iapply (wp_load 𝒱₀ (c : Thread nD τ) none Set.univ (m := mlM) (Finset.subset_univ _)) $$ H7; iintro H7
  iapply (wp_load 𝒱₀ (c : Thread nD τ) none Set.univ (m := oM) (Finset.subset_univ _)) $$ H6; iintro H6
  rw [show oM.view.readAt (Elt F) (Rect.unit (s := S4x16x16x64) ![0, 0, 0, 0] S4x16x16x64.size inb_S4x16x16x64_S4x16x16x64_0_0_0_0).toLoadRect
      (oAll m c) = oAll m c from Memref.readAt_unit_zero (Elt F) cc0_scratch0 hz4 _ _]
  iapply (wp_load 𝒱₀ (c : Thread nD τ) none Set.univ (m := outM) (Finset.subset_univ _)) $$ H5; iintro H5
  iapply (wp_store 𝒱₀ (c : Thread nD τ) none Set.univ (m := outM)
    (r := Rect.unit (s := S16x1x16x64) ![0, 0, 0, 0] S16x1x16x64.size inb_S16x1x16x64_S16x1x16x64_0_0_0_0)
    (Mk := Finset.univ) (Finset.subset_univ _)) $$ H5; iintro H5
  iapply Hk
  isplitl [H6]; · iexact H6
  isplitl [H7]; · iexact H7
  ihave H5 := (Entails.of_eq (congrArg (fun f => (held c cc0_stg5_0 f : sProp 𝕄))
    (Memref.write_access_unit_zero_univ (Elt F) cc0_stg5_0 hz4 _ g (res m c)))) $$ H5
  iexact H5

/-! ## The exchange -/

theorem dn_one (c : Dev nD) : dn c 1 = up c 3 := by revert c; decide
theorem dn_two (c : Dev nD) : dn c 2 = up c 2 := by revert c; decide
theorem dn_three (c : Dev nD) : dn c 3 = up c 1 := by revert c; decide
theorem up_one_three (c : Dev nD) : up (up c 1) 3 = c := by revert c; decide
theorem up_two_two (c : Dev nD) : up (up c 2) 2 = c := by revert c; decide
theorem up_three_one (c : Dev nD) : up (up c 3) 1 = c := by revert c; decide

/-- The unused transfer cells close at once. -/
theorem close_unused (K : Dev nD × Cx → ℕ) (c : Dev nD) (a : Fin 4) :
    iprop(records m K ∗ pos0 c (.dma (qS a 0))) ⊢ |={Set.univ}=> zero0 (F := F) c (.dma (qS a 0)) := by
  iintro ⟨#HR, Ha⟩
  imod (Rounds.cell_close ER (sched m) (Set.mem_univ (K (c, .inr (a, 0)))) (fun h => h) (R := 0)
    (fun r _ => duties_q_zero m a c r)) $$ [Ha] with Hz
  · isplitr; · iapply (inv_at m K (c, .inr (a, 0))); iexact HR
    iexact Ha
  imodintro
  iexact Hz

set_option maxHeartbeats 1600000 in
theorem wp_exchange (K : Dev nD × Cx → ℕ) (c : Dev nD) (f6 : Cont F cc0_scratch0) (f7 : Cont F cc0_scratch1) (g : Cont F cc0_stg5_0)
    (W : Waits sig Unit) (Q : PUnit → sProp 𝕄) :
    iprop(records m K ∗ linear c ∗ creds c ∗ levAts L lv
        ∗ held c cc0_scratch0 (fillO m c headList f6) ∗ held c cc0_scratch1 (fillML m c headList f7) ∗ held c cc0_stg5_0 g
        ∗ owes (c : Thread nD τ) (O₀ c) W
        ∗ ((Φ₁ m c ∗ held c cc0_stg5_0 (res m c) ∗ ∃ W', owes (c : Thread nD τ) 0 W') -∗ Q ⟨⟩))
      ⊢ wp frame (wpE (defs₀ (F := F)) 𝒱₀ (c : Thread nD τ) none) Set.univ
          (exchange outM oM mlM cc0_scratch2 cc0_scratch3 cc0_scratch4 cc0_scratch5 c) Q := by
  unfold exchange handshake copies
  simp only [dev1_eq, dev2_eq, dev3_eq, dev4_eq, dev5_eq, dev6_eq, dev7_eq, dev8_eq, dev9_eq, bind_assoc]
  unfold linear creds recvCred pays
  iintro ⟨#HR, ⟨⟨HaB, Hf0, Hf1, Hf2, Hf3⟩, -, ⟨Hb1, Hs1, Hr1, Ht1, Hu1⟩, ⟨Hb2, Hs2, Hr2, Ht2, Hu2⟩, ⟨Hb3, Hs3, Hr3, Ht3, Hu3⟩⟩,
    ⟨HcB, ⟨HcO1, HcM1⟩, ⟨HcO2, HcM2⟩, ⟨HcO3, HcM3⟩⟩, #Hlev,
    H6, H7, H5, HO, Hk⟩
  ihave H6 := (Entails.of_eq ((heldO_split c fullShare _).trans (by rw [ptsO_own, ptsO_shares]))) $$ H6
  ihave H7 := (Entails.of_eq ((heldML_split c fullShare _).trans (by rw [ptsML_own, ptsML_shares]))) $$ H7
  icases H6 with ⟨⟨HoA, HoB, HoC⟩, Ho1, Ho2, Ho3⟩
  icases H7 with ⟨⟨HmA, HmB, HmC⟩, Hm1, Hm2, Hm3⟩
  -- the three signals
  iapply (wp_signalBar m K c (up c 1) 1 (.inl rfl) (dn_up c 1) ((up c 2, .inl ()) :: (up c 3, .inl ()) :: copyDues c) W)
    $$ [Ho1 Hm1 HO Hb1]
  · isplitr; · iexact HR
    isplitl [Ho1]; · iexists _; iexact Ho1
    isplitl [Hm1]; · iexists _; iexact Hm1
    isplitl [HO]; · iexact HO
    iexact Hb1
  iintro HO
  iapply (wp_signalBar m K c (up c 2) 2 (.inr (.inl rfl)) (dn_up c 2) ((up c 3, .inl ()) :: copyDues c) W)
    $$ [Ho2 Hm2 HO Hb2]
  · isplitr; · iexact HR
    isplitl [Ho2]; · iexists _; iexact Ho2
    isplitl [Hm2]; · iexists _; iexact Hm2
    isplitl [HO]; · iexact HO
    iexact Hb2
  iintro HO
  iapply (wp_signalBar m K c (up c 3) 3 (.inr (.inr rfl)) (dn_up c 3) (copyDues c) W)
    $$ [Ho3 Hm3 HO Hb3]
  · isplitr; · iexact HR
    isplitl [Ho3]; · iexists _; iexact Ho3
    isplitl [Hm3]; · iexists _; iexact Hm3
    isplitl [HO]; · iexact HO
    iexact Hb3
  iintro HO
  -- the wait for the three others
  simp only [semWaitWord, Prog.lift, Prog.bind_op, Prog.bind_ret]
  iapply (Rounds.wp_wait_rest_token 𝒱₀ ER (sched m) (c : Thread nD τ) none (κ := K (c, .inl ()))
      (wpE_semWait_eq 𝒱₀ (c : Thread nD τ) none Set.univ) (Set.mem_univ _) () (O := tally (copyDues c)) (W := W) (R := 0) (m := 0) (T := ∅)
      (by rw [expect_bar]; decide)) $$ [HcB HO HaB]
  · isplitr; · iapply (inv_at m K (c, .inl ())); iexact HR
    isplitl [HcB]; · iexact HcB
    isplitl [HO]; · iexact HO
    isplitr; · iapply (mayWait_bar c); iexact Hlev
    iexact HaB
  iintro ⟨HO, HaB, -, Hpay⟩
  ihave Hp := (Entails.of_eq (rest_bar m c)) $$ Hpay
  unfold barPay
  rw [dn_one, dn_two, dn_three]
  icases Hp with ⟨⟨⟨%g1, Hg1⟩, ⟨%n1, Hn1⟩⟩, ⟨⟨%g2, Hg2⟩, ⟨%n2, Hn2⟩⟩, ⟨⟨%g3, Hg3⟩, ⟨%n3, Hn3⟩⟩⟩
  -- the six copies
  iapply (wp_copyO m K c (up c 1) 1 3 (by decide) (by decide) (up_one_three c) g3 _ _) $$ [HoA Hg3 HO Hs1 Hr1]
  · isplitr; · iexact HR
    isplitl [HoA]; · iexact HoA
    isplitl [Hg3]; · iexact Hg3
    isplitl [HO]; · iexact HO
    isplitl [Hs1]; · iexact Hs1
    iexact Hr1
  iintro ⟨Hx1, HO⟩
  iapply (wp_copyML m K c (up c 1) 1 3 (by decide) (by decide) (up_one_three c) n3 _ _) $$ [HmA Hn3 HO Ht1 Hu1]
  · isplitr; · iexact HR
    isplitl [HmA]; · iexact HmA
    isplitl [Hn3]; · iexact Hn3
    isplitl [HO]; · iexact HO
    isplitl [Ht1]; · iexact Ht1
    iexact Hu1
  iintro ⟨Hy1, HO⟩
  iapply (wp_copyO m K c (up c 2) 2 2 (by decide) (by decide) (up_two_two c) g2 _ _) $$ [HoB Hg2 HO Hs2 Hr2]
  · isplitr; · iexact HR
    isplitl [HoB]; · iexact HoB
    isplitl [Hg2]; · iexact Hg2
    isplitl [HO]; · iexact HO
    isplitl [Hs2]; · iexact Hs2
    iexact Hr2
  iintro ⟨Hx2, HO⟩
  iapply (wp_copyML m K c (up c 2) 2 2 (by decide) (by decide) (up_two_two c) n2 _ _) $$ [HmB Hn2 HO Ht2 Hu2]
  · isplitr; · iexact HR
    isplitl [HmB]; · iexact HmB
    isplitl [Hn2]; · iexact Hn2
    isplitl [HO]; · iexact HO
    isplitl [Ht2]; · iexact Ht2
    iexact Hu2
  iintro ⟨Hy2, HO⟩
  iapply (wp_copyO m K c (up c 3) 3 1 (by decide) (by decide) (up_three_one c) g1 _ _) $$ [HoC Hg1 HO Hs3 Hr3]
  · isplitr; · iexact HR
    isplitl [HoC]; · iexact HoC
    isplitl [Hg1]; · iexact Hg1
    isplitl [HO]; · iexact HO
    isplitl [Hs3]; · iexact Hs3
    iexact Hr3
  iintro ⟨Hx3, HO⟩
  iapply (wp_copyML m K c (up c 3) 3 1 (by decide) (by decide) (up_three_one c) n1 _ _) $$ [HmC Hn1 HO Ht3 Hu3]
  · isplitr; · iexact HR
    isplitl [HmC]; · iexact HmC
    isplitl [Hn1]; · iexact Hn1
    isplitl [HO]; · iexact HO
    isplitl [Ht3]; · iexact Ht3
    iexact Hu3
  iintro ⟨Hy3, HO⟩
  -- the waits
  iapply (wp_waits m K c 1 3 (by decide) (by decide)) $$ [Hx1 HcO3 Hy1 HcM3 Hf1 HO]
  · isplitr; · iexact HR
    isplitr [HO]
    · unfold waitPre
      isplitl [Hx1]; · iexact Hx1
      isplitl [HcO3]; · iexact HcO3
      isplitl [Hy1]; · iexact Hy1
      isplitl [HcM3]; · iexact HcM3
      iexact Hf1
    · iexists _; iexact HO
  iintro ⟨Hw1, HO⟩
  iapply (wp_waits m K c 2 2 (by decide) (by decide)) $$ [Hx2 HcO2 Hy2 HcM2 Hf2 HO]
  · isplitr; · iexact HR
    isplitr [HO]
    · unfold waitPre
      isplitl [Hx2]; · iexact Hx2
      isplitl [HcO2]; · iexact HcO2
      isplitl [Hy2]; · iexact Hy2
      isplitl [HcM2]; · iexact HcM2
      iexact Hf2
    · iexact HO
  iintro ⟨Hw2, HO⟩
  iapply (wp_waits m K c 3 1 (by decide) (by decide)) $$ [Hx3 HcO1 Hy3 HcM1 Hf3 HO]
  · isplitr; · iexact HR
    isplitr [HO]
    · unfold waitPre
      isplitl [Hx3]; · iexact Hx3
      isplitl [HcO1]; · iexact HcO1
      isplitl [Hy3]; · iexact Hy3
      isplitl [HcM1]; · iexact HcM1
      iexact Hf3
    · iexact HO
  iintro ⟨Hw3, HO⟩
  unfold waitPost
  icases Hw1 with ⟨HoA, Ho3, HmA, Hm3, Hz1⟩
  icases Hw2 with ⟨HoB, Ho2, HmB, Hm2, Hz2⟩
  icases Hw3 with ⟨HoC, Ho1, HmC, Hm1, Hz3⟩
  -- the barrier and the unused cells close
  imod (Rounds.cell_close ER (sched m) (Set.mem_univ (K (c, .inl ()))) (fun h => h) (R := 0 + 1) (duties_later m (barCell c))) $$ [HaB] with HzB
  · isplitr; · iapply (inv_at m K (c, .inl ())); iexact HR
    iexact HaB
  unfold four
  icases Hf0 with ⟨Hq0, Hq1, Hq2, Hq3⟩
  imod (close_unused m K c 0) $$ [Hq0] with Hq0
  · isplitr; · iexact HR
    iexact Hq0
  imod (close_unused m K c 1) $$ [Hq1] with Hq1
  · isplitr; · iexact HR
    iexact Hq1
  imod (close_unused m K c 2) $$ [Hq2] with Hq2
  · isplitr; · iexact HR
    iexact Hq2
  imod (close_unused m K c 3) $$ [Hq3] with Hq3
  · isplitr; · iexact HR
    iexact Hq3
  -- the slots put together
  ihave H6 := (Entails.of_eq (show iprop((ptsO c 0 (shr 1) (oAll m c) ∗ ptsO c 0 (shr 2) (oAll m c) ∗ ptsO c 0 (shr 3) (oAll m c))
      ∗ ptsO c 1 fullShare (oAll m c) ∗ ptsO c 2 fullShare (oAll m c) ∗ ptsO c 3 fullShare (oAll m c)) = (held c cc0_scratch0 (oAll m c) : sProp 𝕄)
      from ((heldO_split c fullShare _).trans (by rw [ptsO_shares])).symm)) $$ [HoA HoB HoC Ho1 Ho2 Ho3]
  · isplitl [HoA HoB HoC]
    · isplitl [HoA]; · iexact HoA
      isplitl [HoB]; · iexact HoB
      iexact HoC
    isplitl [Ho1]; · iexact Ho1
    isplitl [Ho2]; · iexact Ho2
    iexact Ho3
  ihave H7 := (Entails.of_eq (show iprop((ptsML c 0 (shr 1) (mlAll m c) ∗ ptsML c 0 (shr 2) (mlAll m c) ∗ ptsML c 0 (shr 3) (mlAll m c))
      ∗ ptsML c 1 fullShare (mlAll m c) ∗ ptsML c 2 fullShare (mlAll m c) ∗ ptsML c 3 fullShare (mlAll m c)) = (held c cc0_scratch1 (mlAll m c) : sProp 𝕄)
      from ((heldML_split c fullShare _).trans (by rw [ptsML_shares])).symm)) $$ [HmA HmB HmC Hm1 Hm2 Hm3]
  · isplitl [HmA HmB HmC]
    · isplitl [HmA]; · iexact HmA
      isplitl [HmB]; · iexact HmB
      iexact HmC
    isplitl [Hm1]; · iexact Hm1
    isplitl [Hm2]; · iexact Hm2
    iexact Hm3
  -- the combination
  iapply (wp_combine m c _ _ g) $$ [H6 H7 H5]
  · isplitl [H6]; · iexact H6
    isplitl [H7]; · iexact H7
    iexact H5
  iintro ⟨H6, H7, H5⟩
  simp only [Prog.pure_eq_ret]
  rw [wp_ret]; imodintro
  iapply Hk
  unfold Φ₁ zeros four
  isplitr [H5 HO]
  · isplitl [H6]; · iexact H6
    isplitl [H7]; · iexact H7
    isplitr [HzB]
    · isplitl [Hq0 Hq1 Hq2 Hq3]
      · isplitl [Hq0]; · iexact Hq0
        isplitl [Hq1]; · iexact Hq1
        isplitl [Hq2]; · iexact Hq2
        iexact Hq3
      isplitl [Hz1]; · iexact Hz1
      isplitl [Hz2]; · iexact Hz2
      iexact Hz3
    iexact HzB
  isplitl [H5]; · iexact H5
  iexact HO

end Mem

end Cert.KernelIdeal.Attn
-- ==== Proof.Launch.lean ====
/- The launch: the ghost state dealt to the four devices, the library's conditions on the kernel call, and
   the run of the whole program from any memory. -/
module

public import proofs.«01_k».proof.Proof.Body

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The kernel call's data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xq m c
    | ⟨1, _⟩ => xk m c
    | ⟨2, _⟩ => xv m c
    | ⟨3, _⟩ => xb m c
    | ⟨4, _⟩ => xl m c
    | ⟨5, _⟩ => res m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

omit [FloatOps F] in
theorem owns_held (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ held c b f) := by
  unfold owns; simp only [Memref.view_whole, View.read_whole, View.set_whole]

/-- A staging buffer of device `c` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ held c b f)

def bodyPre (c : Dev nD) : sProp 𝕄 :=
  iprop(Φ₀ m c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ m c ∗ (dats m ρ 0 c).owesAt () t₀.succ
    ∗ stg c cc0_stg0_0 (xq m c) ∗ stg c cc0_stg1_0 (xk m c) ∗ stg c cc0_stg2_0 (xv m c)
    ∗ stg c cc0_stg3_0 (xb m c) ∗ stg c cc0_stg4_0 (xl m c) ∗ stg c cc0_stg5_0 (res m c))

set_option maxHeartbeats 1600000 in
theorem sound_body (c : Dev nD) : bodyPre m ρ c ⊢ wp frame (wpE (defs₀ (F := F)) 𝒱₀ (c : Thread nD τ) none) Set.univ
    (steps qM kM vM btM lnM outM oM mlM cc0_scratch2 cc0_scratch3 cc0_scratch4 cc0_scratch5) (fun _ => bodyPost m ρ c) := by
  unfold steps
  simp only [Prog.lift, Prog.bind_op, Prog.bind_ret, wp_deviceId]
  unfold bodyPre Φ₀ start
  iintro ⟨⟨⟨⟨%K, #HR, Hlin⟩, Hcr, #Hlev⟩, ⟨%f6, H6⟩, ⟨%f7, H7⟩⟩, Ho,
    ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  have h0 : g0 = xq m c := by rw [hg0]; unfold Dat.before; rw [if_pos (fetch0_0 t₀)]; rfl
  have h1 : g1 = xk m c := by rw [hg1]; unfold Dat.before; rw [if_pos (fetch0_1 t₀)]; rfl
  have h2 : g2 = xv m c := by rw [hg2]; unfold Dat.before; rw [if_pos (fetch0_2 t₀)]; rfl
  have h3 : g3 = xb m c := by rw [hg3]; unfold Dat.before; rw [if_pos (fetch0_3 t₀)]; rfl
  have h4 : g4 = xl m c := by rw [hg4]; unfold Dat.before; rw [if_pos (fetch0_4 t₀)]; rfl
  subst h0 h1 h2 h3 h4
  unfold Dat.owesAt Pipeline.owesWithin
  icases Ho with ⟨%W, %hW, HO⟩
  rw [show (dats m ρ 0 c).owed t₀.castSucc = O₀ c from rfl]
  iapply (wp_load 𝒱₀ (c : Thread nD τ) none Set.univ (m := btM) (Finset.subset_univ _)) $$ H3; iintro H3
  rw [show btM.view.readAt (Elt F) (Rect.unit (s := S16x128) ![0, 0] S16x128.size inb_S16x128_S16x128_0_0).toLoadRect (xb m c) = xb m c
    from Memref.readAt_unit_zero (Elt F) cc0_stg3_0 hz2 _ _]
  iapply (wp_load 𝒱₀ (c : Thread nD τ) none Set.univ (m := lnM) (Finset.subset_univ _)) $$ H4; iintro H4
  rw [show lnM.view.readAt (Elt F) (Rect.unit (s := S16x1) ![0, 0] S16x1.size inb_S16x1_S16x1_0_0).toLoadRect (xl m c) = xl m c
    from Memref.readAt_unit_zero (Elt F) cc0_stg4_0 hz2 _ _]
  iapply (wp_heads m c headList _ _ f6 f7)
  unfold inputs
  isplitl [H0 H1 H2]
  · isplitl [H0]; · iexact H0
    isplitl [H1]; · iexact H1
    iexact H2
  isplitl [H6]; · iexact H6
  isplitl [H7]; · iexact H7
  iintro ⟨⟨H0, H1, H2⟩, H6, H7⟩
  iapply (wp_exchange m K c f6 f7 g5 W)
  isplitr; · iexact HR
  isplitl [Hlin]; · iexact Hlin
  isplitl [Hcr]; · iexact Hcr
  isplitr; · iexact Hlev
  isplitl [H6]; · iexact H6
  isplitl [H7]; · iexact H7
  isplitl [H5]; · iexact H5
  isplitl [HO]; · iexact HO
  iintro ⟨HΦ, H5, ⟨%W', HO⟩⟩
  unfold bodyPost Dat.owesAt Pipeline.owesWithin
  rw [show (dats m ρ 0 c).owed t₀.succ = 0 from rfl]
  isplitl [HΦ]; · iexact HΦ
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

set_option maxRecDepth 65536 in
/-- The library's condition on the body. -/
theorem body_obligation (c : Dev nD) : BodyObligation (dats (F := F) m ρ 0 c) (defs₀ (F := F)) 𝒱₀ () Set.univ := fun t => by
  rw [fin_N t]
  rw [bigSep_W, bigSep_W]
  simp only [owns_held]
  show bodyPre m ρ c ⊢ wp frame (wpE (defs₀ (F := F)) 𝒱₀ (c : Thread nD τ) none) Set.univ
    (cc0_body qM (Memref.isWhole_whole _) kM (Memref.isWhole_whole _) vM (Memref.isWhole_whole _) btM (Memref.isWhole_whole _)
      lnM (Memref.isWhole_whole _) outM (Memref.isWhole_whole _) oM (Memref.isWhole_whole _) mlM (Memref.isWhole_whole _)
      cc0_scratch2 cc0_scratch3 cc0_scratch4 cc0_scratch5) (fun _ => bodyPost m ρ c)
  rw [body_eq_steps]
  exact sound_body m ρ c

end Cert.KernelIdeal.Attn
-- ==== Proof.Run.lean ====
/- The ghost state of the launch, and the run of the whole program from any memory: every result array at
   `res`, the arguments unchanged, every counter back at zero. -/
module

public import proofs.«01_k».proof.Proof.Launch
public import Idealize.ShloMosaic.Lib.Pipeline.CollectiveSegs

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over cells -/

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem bigSep_cx (Φ : Cx → sProp 𝕄) :
    bigSep Finset.univ Φ = iprop(Φ (.inl ()) ∗ bigSep Finset.univ fun x : Fin 4 × Fin 4 => Φ (.inr x)) := by
  rw [BI.bigSep_univ_sum, bigSep_univ_eq_bigSepL [()] (by decide) (by decide)]
  rfl

/-- The transfer cells listed by distance, then by kind: a receive cell stands with the copy it answers. -/
def byDistance : Fin 4 × Fin 4 ≃ Fin 4 × Fin 4 where
  toFun x := (x.2, if x.2 = 1 ∨ x.2 = 3 then co x.1 else x.1)
  invFun x := (if x.1 = 1 ∨ x.1 = 3 then co x.2 else x.2, x.1)
  left_inv := by decide
  right_inv := by decide

omit [FloatOps F] in
/-- The sixteen transfer cells, grouped by distance. -/
theorem by_distance (Φ : SemLoc sig → sProp 𝕄) :
    (bigSep Finset.univ fun x : Fin 4 × Fin 4 => Φ (osem x))
      = iprop(four Φ 0 0 ∗ four Φ 1 3 ∗ four Φ 2 2 ∗ four Φ 3 1) := by
  rw [bigSep_univ_equiv byDistance, bigSep_univ_prod, bigSep_fin4, bigSep_fin4, bigSep_fin4, bigSep_fin4, bigSep_fin4]
  rfl

/-! ## The launch element -/

theorem ownSemFacts : Pipeline.OwnSemFacts cfg0.spec osem := by decide

theorem share_eq (c : Dev nD) (w : Fin cfg0.W) : (dats m ρ 0 c).share w = fullShare := by unfold Dat.share; split <;> rfl

def allCells : Finset (GSem nD τ sig) := Finset.univ.map ⟨kcell, kcell_injective⟩

/-- The payment tokens of a device's own cells. -/
abbrev tokOf (x : Dev nD × (Fin 4 ⊕ (Fin 4 × Fin 4))) : GSem nD τ sig × ℕ × Fin 4 :=
  match x.2 with
  | .inl d => (barCell x.1, 0, d)
  | .inr y => (qCell y.1 x.1 y.2, 0, 0)

theorem tokOf_injective : Function.Injective tokOf := by
  rintro ⟨c, d | y⟩ ⟨c', d' | y'⟩ h
  · have h1 : c = c' := congrArg (fun x : GSem nD τ sig × ℕ × Fin 4 => x.1.1.1) h
    have h2 : d = d' := congrArg (fun x : GSem nD τ sig × ℕ × Fin 4 => x.2.2) h
    rw [h1, h2]
  · exact absurd (congrArg (fun x : GSem nD τ sig × ℕ × Fin 4 => x.1.2) h) (fun h' => by cases h')
  · exact absurd (congrArg (fun x : GSem nD τ sig × ℕ × Fin 4 => x.1.2) h) (fun h' => by cases h')
  · have h1 : kcell (c, .inr y) = kcell (c', .inr y') := congrArg (fun x : GSem nD τ sig × ℕ × Fin 4 => x.1) h
    have h2 := kcell_injective h1
    rw [show c = c' from congrArg Prod.fst h2, show y = y' from Sum.inr.inj (congrArg Prod.snd h2)]

def allToks : Finset (GSem nD τ sig × ℕ × Fin 4) := Finset.univ.map ⟨tokOf, tokOf_injective⟩

def u₀ : UU := (initOf (Pipeline.cells cfgs cellOf_inj) (Pipeline.launchToks cfgs cellOf_inj), initOf allCells allToks)

def toks (c : Dev nD) : sProp 𝕄 :=
  iprop((bigSep Finset.univ fun d : Fin 4 => dutyTok ER (barCell c) 0 d)
    ∗ bigSep Finset.univ fun y : Fin 4 × Fin 4 => dutyTok ER (qCell y.1 c y.2) 0 0)

/-- What the launch element deals device `c`. -/
def G (c : Dev nD) : sProp 𝕄 :=
  iprop((bigSep Finset.univ fun k : Cx => roundState ER (sched m) (kcell (c, k)) 0)
    ∗ (bigSep Finset.univ fun k : Cx => iprop(atPos ER (kcell (c, k)) 0 ∅ 0 ∗ reached ER (kcell (c, k)) 0)) ∗ toks c)
/-- What the global step makes of it. -/
def G' (c : Dev nD) : sProp 𝕄 := iprop(∃ K, records m K ∗ linear c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Cx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [BI.bigSep_univ_sum]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cx => semVal (kcell (c, k)) 0 : sProp 𝕄) := by
  rw [unscopedSems0_eq, bigSep_cx]
  iintro ⟨HS, HB⟩
  isplitl [HB]; · iexact HB
  unfold Pipeline.ownSems0
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cx => semVal (kcell (c, k)) 0) ∗ bigSep Finset.univ fun k : Cx => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A payment at a distance belongs to the device that many places further; -/
def overBar : Dev nD × Fin 4 ≃ Dev nD × Fin 4 where
  toFun x := (up x.1 x.2, x.2)
  invFun x := (dn x.1 x.2, x.2)
  left_inv x := Prod.ext (dn_up _ _) rfl
  right_inv x := Prod.ext (up_dn _ _) rfl
/-- a copy at a distance fills the slot numbered by what is left of the way round. -/
def overSlot : Dev nD × Fin 4 ≃ Dev nD × Fin 4 where
  toFun x := (up x.1 x.2, co x.2)
  invFun x := (up x.1 x.2, co x.2)
  left_inv x := Prod.ext (up_up_co _ _) (co_co _)
  right_inv x := Prod.ext (up_up_co _ _) (co_co _)

omit [FloatOps F] in
theorem flat (Φ : Dev nD × Fin 4 → sProp 𝕄) :
    (bigSep Finset.univ fun c : Dev nD => bigSep Finset.univ fun d : Fin 4 => Φ (c, d)) = bigSep Finset.univ Φ :=
  (bigSep_univ_prod Φ).symm

omit [FloatOps F] in
/-- The tokens go to the devices that pay. -/
theorem toks_around : (bigSep Finset.univ fun c : Dev nD => (toks c : sProp 𝕄))
    = bigSep Finset.univ fun c : Dev nD => iprop(pays c 0 0 ∗ pays c 1 3 ∗ pays c 2 2 ∗ pays c 3 1) := by
  have hA (a : Fin 4) (x : Dev nD × Fin 4) : (dutyTok ER (qCell a x.1 x.2) 0 0 : sProp 𝕄) = dutyTok ER (qCell a x.1 x.2) 0 0 := rfl
  have h1 : (bigSep Finset.univ fun c : Dev nD => (toks c : sProp 𝕄))
      = iprop((bigSep Finset.univ fun x : Dev nD × Fin 4 => dutyTok ER (barCell x.1) 0 x.2)
        ∗ (bigSep Finset.univ fun x : Dev nD × Fin 4 => dutyTok ER (qCell 0 x.1 x.2) 0 0)
        ∗ (bigSep Finset.univ fun x : Dev nD × Fin 4 => dutyTok ER (qCell 1 x.1 x.2) 0 0)
        ∗ (bigSep Finset.univ fun x : Dev nD × Fin 4 => dutyTok ER (qCell 2 x.1 x.2) 0 0)
        ∗ (bigSep Finset.univ fun x : Dev nD × Fin 4 => dutyTok ER (qCell 3 x.1 x.2) 0 0)) := by
    rw [← flat, ← flat, ← flat, ← flat, ← flat, ← bigSep_sep', ← bigSep_sep', ← bigSep_sep', ← bigSep_sep']
    exact bigSep_congr fun c _ => by unfold toks; rw [bigSep_univ_prod, bigSep_fin4 (fun a => bigSep Finset.univ _)]
  have h2 : (bigSep Finset.univ fun c : Dev nD => iprop(pays c 0 0 ∗ pays c 1 3 ∗ pays c 2 2 ∗ pays c 3 1) : sProp 𝕄)
      = bigSep Finset.univ fun x : Dev nD × Fin 4 => pays x.1 x.2 (co x.2) := by
    rw [← flat]
    exact bigSep_congr fun c _ => by
      rw [bigSep_fin4, show co 0 = 0 from rfl, show co 1 = 3 from rfl, show co 2 = 2 from rfl, show co 3 = 1 from rfl]
  rw [h1, h2,
    bigSep_univ_equiv overBar (fun x : Dev nD × Fin 4 => (dutyTok ER (barCell x.1) 0 x.2 : sProp 𝕄)),
    bigSep_univ_equiv overSlot (fun x : Dev nD × Fin 4 => (dutyTok ER (qCell 1 x.1 x.2) 0 0 : sProp 𝕄)),
    bigSep_univ_equiv overSlot (fun x : Dev nD × Fin 4 => (dutyTok ER (qCell 3 x.1 x.2) 0 0 : sProp 𝕄)),
    ← bigSep_sep', ← bigSep_sep', ← bigSep_sep', ← bigSep_sep']
  rfl

omit [FloatOps F] in
theorem bigSep_with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem linear_eq (c : Dev nD) : iprop((bigSep Finset.univ fun k : Cx => (atPos ER (kcell (c, k)) 0 ∅ 0 : sProp 𝕄))
    ∗ (pays c 0 0 ∗ pays c 1 3 ∗ pays c 2 2 ∗ pays c 3 1)) = linear c := by
  unfold linear
  rw [bigSep_cx, ← by_distance (pos0 c)]

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Cx => iprop(∃ κ : ℕ, cellInv ER (sched m) κ (kcell ck))),
    bigSep_congr (s := Finset.univ) (fun (c : Dev nD) _ => bigSep_sep' Finset.univ (fun k : Cx => (atPos ER (kcell (c, k)) 0 ∅ 0 : sProp 𝕄)) (fun k => reached ER (kcell (c, k)) 0)),
    bigSep_sep', ← bigSep_univ_prod (fun ck : Dev nD × Cx => (reached ER (kcell ck) 0 : sProp 𝕄)), toks_around]
  iintro ⟨HI, ⟨Hat, #HR⟩, Htok⟩
  ihave HK := (BI.bigSep_exists_pi Finset.univ (fun (ck : Dev nD × Cx) (κ : ℕ) => (cellInv ER (sched m) κ (kcell ck) : sProp 𝕄))) $$ HI
  icases HK with ⟨%K, #HI⟩
  iapply (bigSep_with_records (R := records m K) (Φ := fun c => linear c) fun c _ => by
    unfold G'
    iintro ⟨H1, H2⟩
    iexists K
    isplitl [H1] <;> iassumption)
  isplitr
  · unfold records; isplitl; · iexact HI
    iexact HR
  · ihave H := (Entails.of_eq (bigSep_sep' Finset.univ (fun c : Dev nD => bigSep Finset.univ fun k : Cx => (atPos ER (kcell (c, k)) 0 ∅ 0 : sProp 𝕄))
      (fun c : Dev nD => iprop(pays c 0 0 ∗ pays c 1 3 ∗ pays c 2 2 ∗ pays c 3 1))).symm) $$ [Hat Htok]
    · isplitl [Hat]; · iexact Hat
      iexact Htok
    ihave H := (show (bigSep Finset.univ fun c : Dev nD => iprop((bigSep Finset.univ fun k : Cx => (atPos ER (kcell (c, k)) 0 ∅ 0 : sProp 𝕄))
        ∗ (pays c 0 0 ∗ pays c 1 3 ∗ pays c 2 2 ∗ pays c 3 1))) ⊢ bigSep Finset.univ fun c : Dev nD => linear c from
      bigSep_mono fun c _ => Entails.of_eq (linear_eq c)) $$ H
    iexact H

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- The cells of a device that others pay. -/
abbrev paid : List Cx := [.inl (), .inr (1, 1), .inr (3, 1), .inr (1, 2), .inr (3, 2), .inr (1, 3), .inr (3, 3)]

/-- How many units each is paid. -/
abbrev times : Cx → ℕ
  | .inl _ => 3
  | .inr _ => 1

theorem paid_count (c : Dev nD) : ∀ k ∈ paid, (∑ d : Dev nD, (dues d).countP (fun y => decide (y = (c, k)))) = times k := by
  revert c; decide

theorem launch_paid (c : Dev nD) (k : Cx) (hk : k ∈ paid) :
    tallyOn (kcell (c, k)) (launchCredit (Pipeline.owing O₀) 0 (kcell (c, k)))
      = (tallyAt (kcell (c, k)) () (times k * amt k) : CellTallies nD τ sig Unit) := by
  unfold tallyAt; refine congrArg _ (Finsupp.ext fun u => ?_); cases u
  rw [Pipeline.launchCredit_owing, Finsupp.single_eq_same, Finset.sum_congr rfl fun d _ => (show (O₀ d (kcell (c, k))) () = _ from tally_apply (dues d) (c, k)),
    ← Finset.sum_mul, paid_count c k hk]

omit [FloatOps F] in
theorem creds_intro (c : Dev nD) : (Pipeline.launchCred O₀ c : sProp 𝕄) ⊢ creds c := by
  unfold Pipeline.launchCred
  refine (bigSep_subset (t := (paid.toFinset).map ⟨csem, csem_injective⟩) (Finset.subset_univ _)).trans ?_
  rw [bigSep_map]
  refine (Entails.of_eq (bigSep_congr (s := paid.toFinset) fun k hk => congrArg cred (launch_paid c k (List.mem_toFinset.mp hk)))).trans ?_
  rw [
    bigSep_eq_bigSepL_of_eq paid rfl (by decide)]
  unfold creds recvCred
  show iprop(cred (tallyAt (barCell c) () (3 * 1)) ∗ cred (tallyAt (qCell 1 c 1) () (1 * NO)) ∗ cred (tallyAt (qCell 3 c 1) () (1 * NML))
    ∗ cred (tallyAt (qCell 1 c 2) () (1 * NO)) ∗ cred (tallyAt (qCell 3 c 2) () (1 * NML))
    ∗ cred (tallyAt (qCell 1 c 3) () (1 * NO)) ∗ cred (tallyAt (qCell 3 c 3) () (1 * NML))) ⊢ _
  simp only [Nat.one_mul, Nat.mul_one]
  iintro ⟨H0, H1, H2, H3, H4, H5, H6⟩
  isplitl [H0]; · iexact H0
  isplitl [H1 H2]
  · isplitl [H1] <;> iassumption
  isplitl [H3 H4]
  · isplitl [H3] <;> iassumption
  isplitl [H5] <;> iassumption

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, unscopedSems0_eq]
  unfold Φ₁ zeros
  rw [← by_distance (zero0 c)]
  iintro ⟨H6, H7, HS, HB⟩
  isplitl [HB]; · iexact HB
  isplitl [HS]
  · unfold Pipeline.ownSems0; iexact HS
  isplitl [H6]
  · iexists _; iexact H6
  iexists _; iexact H7

theorem waits_ok (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> (revert c; decide)) _ (by
      rcases t with ⟨_ | _, ht⟩
      · exact Or.inl rfl
      · exact Or.inr rfl)

/-! ## The run -/

/-- The contents of a window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair run of the program terminates with each window's array at its computed contents and every counter
    at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits_ok m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Attn
-- ==== Proof.Result.lean ====
/- What a run of the program leaves in the arrays the claims speak of. -/
module

public import proofs.«01_k».proof.Proof.Run
public import Idealize.ShloMosaic.Lib.Pipeline.Value

@[expose] public section

noncomputable section

namespace Cert.KernelIdeal.Attn

open Cert.KernelIdeal Cert.KernelIdeal.Gen
open Idealize.ShloMosaic
open Idealize.ShloMosaic.TcCoe
open Idealize.SL.Sem
open Idealize.ShloMosaic.Pipeline (Dat Cfg Window)

variable {F : FTy → Type} [FloatOps F]

variable (m : (ℓ : Loc nD τ sig) → Buf (Elt F) ℓ) (ρ : Dev nD → PrngReg)

theorem finalA_in (c : Dev nD) (w : Fin cfg0.W) (h : (cfg0.win w).isOut = false) :
    finalA m ρ c w = m ((cfg0.win w).arr.view.loc (c : Thread nD τ)) :=
  (dats (F := F) m ρ 0 c).arrAt_in w h _

/-- The result window's block is its whole array. -/
theorem out_emb (y : (win0_5.xblock (cfg0.grid.coords t₀)).Idx) : (win0_5.blk t₀).view.emb y = y := by
  funext a
  exact Fin.ext (Window.rect_emb_val_of_index_zero win0_5 t₀ a (by fin_cases a <;> decide) y)

theorem finalA_out (c : Dev nD) : finalA m ρ c (5 : Fin 6) = res m c := by
  funext y
  have h := (dats (F := F) m ρ 0 c).arrAt_emb_eq_flushed (5 : Fin 6)
    (fun t t' _ _ hne => absurd ((fin_N t).trans (fin_N t').symm) hne) t₀ (flush0_5 t₀) y
  rw [show ((cfg0.win (5 : Fin 6)).blk t₀).view.emb y = y from out_emb y] at h
  exact h.trans ((cast_eq _ _).trans rfl)

/-- Every run ends with the result array at `res`, the arguments unchanged and every counter at zero. -/
theorem run_values : θ_run defs (onTc (τ := τ) (main (F := F))) (s₀ m ρ) (fun r => (∀ c : Dev nD,
      r.2.mem ((c.tc : Thread nD τ).loc main_v1) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨(h.1 c (5 : Fin 6)).trans (finalA_out m ρ c), (h.1 c (0 : Fin 6)).trans (finalA_in m ρ c 0 rfl),
      (h.1 c (1 : Fin 6)).trans (finalA_in m ρ c 1 rfl), (h.1 c (2 : Fin 6)).trans (finalA_in m ρ c 2 rfl),
      (h.1 c (3 : Fin 6)).trans (finalA_in m ρ c 3 rfl), (h.1 c (4 : Fin 6)).trans (finalA_in m ρ c 4 rfl)⟩, h.2⟩) (run_main m ρ)

end Cert.KernelIdeal.Attn
-- ==== Proof.Frames.lean ====
/- The runs as the claims state them: every program terminates, leaves its arguments as they were and every
   counter at zero. -/
module

public import proofs.«01_k».proof.Defs
public import proofs.«01_k».proof.Proof.Result
public import proofs.«01_k».proof.Proof.Gen.Kernel
public import proofs.«01_k».proof.Proof.Gen.ReferenceIdeal.Run

@[expose] public section

noncomputable section

namespace Cert.Proof

open Idealize.ShloMosaic Idealize.SL.Sem

theorem frame_kernelIdeal : Cert.quiescent_KernelIdeal := fun m ρ _ =>
  (θ_run Cert.KernelIdeal.defs _ _).mono (fun _ h => ⟨fun c => (h.1 c).2, h.2⟩)
    (Cert.KernelIdeal.Attn.run_values (F := Ideal) m ρ)

/-- The two programs have one body table. -/
theorem bodies_eq {F : FTy → Type} [FloatOps F] : Cert.Kernel.defs₀ (F := F) = Cert.KernelIdeal.defs₀ := by
  unfold Cert.Kernel.defs₀ Cert.KernelIdeal.defs₀
  refine congrArg Defs.onTc ?_
  funext l x
  obtain ⟨l, hl⟩ := l
  cases l with
  | zero => rfl
  | succ n => exact absurd hl (by omega)

theorem defs_eq {F : FTy → Type} [FloatOps F] : Cert.Kernel.defs (F := F) = Cert.KernelIdeal.defs :=
  congrArg (Pipeline.defs Cert.KernelIdeal.pcfgs) bodies_eq

/-- The same program on bit patterns. -/
theorem frame_kernel : Cert.quiescent_Kernel := fun m ρ _ => by
  rw [defs_eq]
  exact (θ_run Cert.KernelIdeal.defs _ _).mono (fun _ h => ⟨fun c => (h.1 c).2, h.2⟩)
    (Cert.KernelIdeal.Attn.run_values (F := Bits) m ρ)

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof
-- ==== Proof.Weights.lean ====
/-
  How often a device counts each row of its keys: the number of the sequence's valid pages that are the row's page.
-/
module

public import proofs.«01_k».proof.Proof.Contents
public import Idealize.ShloMosaic.Lib.Pointwise
public import Idealize.ShloMosaic.Lib.StableHlo.Predicate

@[expose] public section

noncomputable section

namespace Cert.KernelIdeal.Attn

open Cert.KernelIdeal Cert.KernelIdeal.Gen
open Idealize.ShloMosaic

/-! ## Words -/

/-- A bit, widened and read as a float, is one or zero. -/
theorem float_bit (b : BitVec 1) :
    FloatOps.sitofp (F := Ideal) FTy.f32 (BitVec.setWidth 32 b) = if b = 1#1 then 1 else 0 := by
  show (((BitVec.setWidth 32 b).toInt : ℝ) : EReal) = _
  rcases BitVec.eq_zero_or_eq_one b with rfl | rfl
  · rw [if_neg (by decide), show (BitVec.setWidth 32 0#1).toInt = 0 by decide]; simp
  · rw [if_pos rfl, show (BitVec.setWidth 32 1#1).toInt = 1 by decide]; simp

theorem andi_eq_one (a b : BitVec 1) : IntOp.andi a b = 1#1 ↔ a = 1#1 ∧ b = 1#1 := by
  revert a b; decide

/-- A device's number times the pages it holds. -/
theorem device_word (d : Dev nD) :
    Scalar.muli (Scalar.remsi (Scalar.divsi d.word 1#32) 4#32) 128#32 = BitVec.ofNat 32 (128 * d.val) := by
  revert d; decide +kernel

/-- Whether the quotient by sixteen is corrected: the sign of the dividend differs from the divisor's and there is a remainder. -/
def corrected (x : BitVec 32) : BitVec 1 :=
  IntOp.andi
    (IntOp.cmpi .ne
      (IntOp.subi (BitVec.setWidth 32 (IntOp.cmpi .sgt x 0#32)) (BitVec.setWidth 32 (IntOp.cmpi .slt x 0#32)))
      (Scalar.subi (Scalar.extui (Scalar.cmpi .sgt 16#32 0#32)) (Scalar.extui (Scalar.cmpi .slt 16#32 0#32))))
    (IntOp.cmpi .ne (IntOp.remsi .vector x 16#32) 0#32)

set_option maxRecDepth 16384 in
/-- The rounded quotient of a row number by sixteen is its page. -/
theorem page_word (t : Fin 2048) :
    Scalar.select (corrected (BitVec.ofNat 32 t.val)) (IntOp.subi (IntOp.divsi .vector (BitVec.ofNat 32 t.val) 16#32) 1#32)
      (IntOp.divsi .vector (BitVec.ofNat 32 t.val) 16#32) = BitVec.ofNat 32 (t.val / 16) := by
  revert t; decide +kernel

/-! ## The count -/

/-- Page `j` of a sequence is valid and is page `p` of device `d`. -/
def Hit (d : Dev nD) (bt : IVec S16x128 32) (ln : IVec S16x1 32) (b : Fin 16) (p : ℕ) (j : Fin 128) : Prop :=
  bt (ix2 b j) - BitVec.ofNat 32 (128 * d.val) = BitVec.ofNat 32 p ∧ IntOp.cmpi .slt (BitVec.ofNat 32 j.val) (ln (ix2 b 0)) = 1#1

instance (d : Dev nD) (bt : IVec S16x128 32) (ln : IVec S16x1 32) (b : Fin 16) (p : ℕ) : DecidablePred (Hit d bt ln b p) :=
  fun _ => inferInstanceAs (Decidable (_ ∧ _))

set_option maxRecDepth 16384 in
/-- The table of page counts. -/
theorem pages_apply (d : Dev nD) (bt : IVec S16x128 32) (ln : IVec S16x1 32) (b : Fin 16) (p : Fin 128) :
    k0_pay2 (F := Ideal) d bt ln (ix2 b p) = (((Finset.univ.filter (Hit d bt ln b p.val)).card : ℝ) : EReal) := by
  pointwise [k0_pay2]
  rw [device_word, EReal.coe_natCast, ← Finset.sum_boole]
  refine Finset.sum_congr rfl fun j _ => ?_
  rw [float_bit]
  refine if_congr ?_ rfl rfl
  rw [andi_eq_one, StableHlo.Predicate.cmpi_eq_iff]
  rfl

set_option maxRecDepth 16384 in
/-- The weight of a row is the count of its page. -/
theorem weight_apply (d : Dev nD) (bt : IVec S16x128 32) (ln : IVec S16x1 32) (b : Fin 16) (t : Fin 2048) :
    weight (F := Ideal) d bt ln (ix2 b t)
      = (((Finset.univ.filter (Hit d bt ln b (t.val / 16))).card : ℝ) : EReal) := by
  have hp : t.val / 16 < 128 := by omega
  have h : weight (F := Ideal) d bt ln (ix2 b t) = ∑ p : Fin 128, k0_pay2 (F := Ideal) d bt ln (ix2 b p) *
      (if p = ⟨t.val / 16, hp⟩ then 1 else 0) := by
    unfold weight
    pointwise [k0_pay5]
    refine Finset.sum_congr rfl fun p _ => ?_
    rw [float_bit]
    congr 1
    refine if_congr ?_ rfl rfl
    have h4 : k0_pay4 (ix2 p t) = corrected (BitVec.ofNat 32 t.val) := by
      pointwise [k0_pay4]
      rfl
    have h3 : k0_pay3 (ix2 p t) = IntOp.divsi .vector (BitVec.ofNat 32 t.val) 16#32 := by
      pointwise [k0_pay3]
    rw [h4, h3, page_word, StableHlo.Predicate.cmpi_eq_iff]
    constructor
    · intro h
      have := congrArg BitVec.toNat h
      simp only [BitVec.toNat_ofNat] at this
      exact Fin.ext (by show p.val = t.val / 16; omega)
    · rintro rfl; rfl
  rw [h]
  simp only [mul_ite, mul_one, mul_zero, Finset.sum_ite_eq', Finset.mem_univ, if_true]
  exact pages_apply d bt ln b ⟨t.val / 16, hp⟩

set_option maxRecDepth 16384 in
/-- A row is counted when its weight is positive. -/
theorem counted_apply (d : Dev nD) (bt : IVec S16x128 32) (ln : IVec S16x1 32) (b : Fin 16) (t : Fin 2048) :
    counted (F := Ideal) d bt ln (ix2 b t) = 1#1 ↔ 0 < (Finset.univ.filter (Hit d bt ln b (t.val / 16))).card := by
  have h : counted (F := Ideal) d bt ln (ix2 b t) = FloatOps.cmpf (F := Ideal) .ogt (weight (F := Ideal) d bt ln (ix2 b t)) (Ideal.ofBits .f32 0#32) := rfl
  rw [h, weight_apply, Ideal.ofBits_zero_f32]
  show BitVec.ofBool (decide ((0 : EReal) < _)) = 1#1 ↔ _
  rw [StableHlo.Predicate.ofBool_eq_one_iff, decide_eq_true_eq, ← EReal.coe_zero, EReal.coe_lt_coe_iff]
  exact Nat.cast_pos

end Cert.KernelIdeal.Attn
-- ==== Proof.KernelValue.lean ====
/-
  What a device stores, read at one element: the four devices' partial sums, put on a common scale and divided.
-/
module

public import proofs.«01_k».proof.Proof.Weights
public import Idealize.ShloMosaic.Lib.Pipeline.Value

@[expose] public section

noncomputable section

namespace Cert.KernelIdeal.Attn

open Cert.KernelIdeal Cert.KernelIdeal.Gen
open Idealize.ShloMosaic Idealize.ShloMosaic.TcCoe
open Idealize.ShloMosaic.Pipeline (Window)

variable (m : (ℓ : Loc nD τ sig) → Buf (Elt Ideal) ℓ)

/-! ## The staged blocks are the arguments -/

/-- The queries, keys, values, page numbers and lengths of a device, element by element. -/
def qv (c : Dev nD) (b : Fin 16) (j : Fin 1024) : EReal := m ((c : Thread nD τ).loc main_arg0) (ix2 b j)
def kv (c : Dev nD) (t : Fin 2048) (j : Fin 1024) : EReal := m ((c : Thread nD τ).loc main_arg1) (ix2 t j)
def vv (c : Dev nD) (t : Fin 2048) (j : Fin 1024) : EReal := m ((c : Thread nD τ).loc main_arg2) (ix2 t j)
def bts (c : Dev nD) : IVec S16x128 32 := m ((c : Thread nD τ).loc main_arg3)
def lns (c : Dev nD) : IVec S16x1 32 := m ((c : Thread nD τ).loc main_arg4)

theorem xq_apply (c : Dev nD) (b : Fin 16) (j : Fin 1024) : xq m c (ix2 b j) = qv m c b j := by
  refine congrArg (m ((c : Thread nD τ).loc main_arg0)) (funext fun a => Fin.ext ?_)
  exact Window.rect_emb_val_of_index_zero win0_0 (0 : Fin 1) a (by fin_cases a <;> decide) (ix2 b j)
theorem xk_apply (c : Dev nD) (t : Fin 2048) (j : Fin 1024) : xk m c (ix2 t j) = kv m c t j := by
  refine congrArg (m ((c : Thread nD τ).loc main_arg1)) (funext fun a => Fin.ext ?_)
  exact Window.rect_emb_val_of_index_zero win0_1 (0 : Fin 1) a (by fin_cases a <;> decide) (ix2 t j)
theorem xv_apply (c : Dev nD) (t : Fin 2048) (j : Fin 1024) : xv m c (ix2 t j) = vv m c t j := by
  refine congrArg (m ((c : Thread nD τ).loc main_arg2)) (funext fun a => Fin.ext ?_)
  exact Window.rect_emb_val_of_index_zero win0_2 (0 : Fin 1) a (by fin_cases a <;> decide) (ix2 t j)
theorem xb_eq (c : Dev nD) : xb m c = bts m c := by
  funext y
  refine congrArg (m ((c : Thread nD τ).loc main_arg3)) (funext fun a => Fin.ext ?_)
  exact Window.rect_emb_val_of_index_zero win0_3 (0 : Fin 1) a (by fin_cases a <;> decide) y
theorem xl_eq (c : Dev nD) : xl m c = lns m c := by
  funext y
  refine congrArg (m ((c : Thread nD τ).loc main_arg4)) (funext fun a => Fin.ext ?_)
  exact Window.rect_emb_val_of_index_zero win0_4 (0 : Fin 1) a (by fin_cases a <;> decide) y

/-- The column of a head's element. -/
def col (h : Fin 16) (d : Fin 64) : Fin 1024 := ⟨h.val * 64 + d.val, by omega⟩

theorem qH_apply (c : Dev nD) (h b : Fin 16) (d : Fin 64) : qH m c h (ix2 b d) = qv m c b (col h d) := by
  rw [← xq_apply]
  refine congrArg (xq m c) (funext fun a => Fin.ext ?_)
  show ((colsQ h).emb (ix2 b d) a).val = _
  rw [Rect.emb_apply]
  fin_cases a <;> simp [col, ix2, mul_comm]
theorem kH_apply (c : Dev nD) (h : Fin 16) (t : Fin 2048) (d : Fin 64) : kH m c h (ix2 t d) = kv m c t (col h d) := by
  rw [← xk_apply]
  refine congrArg (xk m c) (funext fun a => Fin.ext ?_)
  show ((colsKV h).emb (ix2 t d) a).val = _
  rw [Rect.emb_apply]
  fin_cases a <;> simp [col, ix2, mul_comm]
theorem vH_apply (c : Dev nD) (h : Fin 16) (t : Fin 2048) (d : Fin 64) : vH m c h (ix2 t d) = vv m c t (col h d) := by
  rw [← xv_apply]
  refine congrArg (xv m c) (funext fun a => Fin.ext ?_)
  show ((colsKV h).emb (ix2 t d) a).val = _
  rw [Rect.emb_apply]
  fin_cases a <;> simp [col, ix2, mul_comm]

/-! ## One device's share -/

/-- The score of row `t` of device `c`, a large negative number where the row is not counted. -/
def sco (c : Dev nD) (b h : Fin 16) (t : Fin 2048) : EReal := k0_pay14 (cnt m c) (qH m c h) (kH m c h) (ix2 b t)
/-- The largest of them. -/
def big (c : Dev nD) (b h : Fin 16) : EReal :=
  Finset.fold max (Ideal.ofBits FTy.f32 0xFF800000#32) (fun t => sco m c b h t) Finset.univ

set_option maxRecDepth 16384 in
theorem sco_apply (c : Dev nD) (b h : Fin 16) (t : Fin 2048) :
    sco m c b h t = Scalar.select (cnt m c (ix2 b t))
      ((∑ x, qv m c b (col h x) * kv m c t (col h x)) * Ideal.ofBits FTy.f32 0x3E000000#32)
      (Ideal.ofBits FTy.f32 0xF149F2CA#32) := by
  unfold sco
  pointwise [k0_pay14]
  simp only [qH_apply, kH_apply]

set_option maxRecDepth 16384 in
theorem pay15_apply (c : Dev nD) (b h : Fin 16) : k0_pay15 (cnt m c) (qH m c h) (kH m c h) (ix2 b 0) = big m c b h := by
  unfold big sco
  pointwise [k0_pay15]

set_option maxRecDepth 16384 in
theorem rM_apply (c : Dev nD) (b h : Fin 16) : rM m c h (ix5 0 0 0 b 0) = big m c b h := by
  unfold rM
  pointwise [k0_pay19]
  exact pay15_apply m c b h

set_option maxRecDepth 16384 in
theorem rL_apply (c : Dev nD) (b h : Fin 16) : rL m c h (ix5 0 0 0 b 0)
    = ∑ t, Ideal.exp (sco m c b h t - big m c b h) * wgt m c (ix2 b t) := by
  rw [← pay15_apply]
  unfold rL sco
  pointwise [k0_pay20, k0_pay17, k0_pay16]

set_option maxRecDepth 16384 in
theorem rO_apply (c : Dev nD) (b h : Fin 16) (d : Fin 64) : rO m c h (ix4 0 0 b d)
    = ∑ t, Ideal.exp (sco m c b h t - big m c b h) * wgt m c (ix2 b t) * vv m c t (col h d) := by
  rw [← pay15_apply]
  unfold rO sco
  pointwise [k0_pay18, k0_pay16]
  simp only [vH_apply]

/-! ## The shares together -/

theorem oAll_apply (c : Dev nD) (s : Fin 4) (h b : Fin 16) (d : Fin 64) :
    oAll m c (ix4 s h b d) = rO m (up c s) h (ix4 0 0 b d) := by
  refine congrArg (rO m (up c s) h) (funext fun a => ?_)
  fin_cases a <;> rfl

/-- A load from the maxima and sums reads the places of its rectangle. -/
theorem readAt_ml (r : Rect S4x2x16x16x1) (f : Cont Ideal cc0_scratch1) (y) :
    mlM.view.readAt (Elt Ideal) r.toLoadRect f y = f (r.emb y) := rfl

theorem msAll_apply (c : Dev nD) (s : Fin 4) (h b : Fin 16) :
    msAll m c (ix5 s 0 h b 0) = rM m (up c s) h (ix5 0 0 0 b 0) := by
  have e : msAll m c (ix5 s 0 h b 0) = mlAll m c (ix5 s 0 h b 0) := by
    have e' : msAll m c (ix5 s 0 h b 0) = mlAll m c (rectMs.emb (ix5 s 0 h b 0)) := readAt_ml rectMs _ _
    rw [e']
    refine congrArg (mlAll m c) (funext fun a => Fin.ext ?_)
    rw [Rect.emb_apply]
    fin_cases a <;> simp [ix5]
  rw [e]
  refine (if_pos rfl).trans (congrArg (rM m (up c s) h) (funext fun a => ?_))
  fin_cases a <;> rfl

theorem lsAll_apply (c : Dev nD) (s : Fin 4) (h b : Fin 16) :
    lsAll m c (ix5 s 0 h b 0) = rL m (up c s) h (ix5 0 0 0 b 0) := by
  have e : lsAll m c (ix5 s 0 h b 0) = mlAll m c (ix5 s 1 h b 0) := by
    have e' : lsAll m c (ix5 s 0 h b 0) = mlAll m c (rectLs.emb (ix5 s 0 h b 0)) := readAt_ml rectLs _ _
    rw [e']
    refine congrArg (mlAll m c) (funext fun a => Fin.ext ?_)
    rw [Rect.emb_apply]
    fin_cases a <;> simp [ix5]
  rw [e]
  refine (if_neg Nat.one_ne_zero).trans (congrArg (rL m (up c s) h) (funext fun a => ?_))
  fin_cases a <;> rfl

/-- A sum over the slots of a device is a sum over the devices. -/
theorem sum_up {M : Type} [AddCommMonoid M] (c : Dev nD) (f : Dev nD → M) : ∑ s : Fin 4, f (up c s) = ∑ z : Dev nD, f z :=
  Fintype.sum_bijective (up c) (by revert c; decide) _ _ fun _ => rfl

set_option maxRecDepth 16384 in
/-- The last step, read at one element. -/
theorem combine_apply (ms ls : Vec Ideal S4x1x16x16x1 .f32) (os : Vec Ideal S4x16x16x64 .f32) (b h : Fin 16) (d : Fin 64) :
    k0_pay1 (k0_pay124 ms ls os) (ix4 b 0 h d) = Ideal.div
      (∑ s, os (ix4 s h b d) * Ideal.exp (ms (ix5 s 0 h b 0) -
        Finset.fold max (Ideal.ofBits FTy.f32 0xFF800000#32) (fun s => ms (ix5 s 0 h b 0)) Finset.univ))
      (∑ s, ls (ix5 s 0 h b 0) * Ideal.exp (ms (ix5 s 0 h b 0) -
        Finset.fold max (Ideal.ofBits FTy.f32 0xFF800000#32) (fun s => ms (ix5 s 0 h b 0)) Finset.univ)) := by
  pointwise [k0_pay1, k0_pay124]

/-- The stored element, with `M` the largest of the four devices' largest scores. -/
theorem res_apply (c : Dev nD) (b h : Fin 16) (d : Fin 64) (M : EReal)
    (hM : M = Finset.fold max (Ideal.ofBits FTy.f32 0xFF800000#32) (fun s => big m (up c s) b h) Finset.univ) :
    res m c (ix4 b 0 h d)
      = Ideal.div
        (∑ z : Dev nD, (∑ t, Ideal.exp (sco m z b h t - big m z b h) * wgt m z (ix2 b t) * vv m z t (col h d))
          * Ideal.exp (big m z b h - M))
        (∑ z : Dev nD, (∑ t, Ideal.exp (sco m z b h t - big m z b h) * wgt m z (ix2 b t)) * Ideal.exp (big m z b h - M)) := by
  have e := combine_apply (msAll m c) (lsAll m c) (oAll m c) b h d
  change res m c (ix4 b 0 h d) = _ at e
  rw [e]
  simp only [oAll_apply, msAll_apply, lsAll_apply, rM_apply, rL_apply, rO_apply, ← hM]
  rw [← sum_up c (fun z => (∑ t, Ideal.exp (sco m z b h t - big m z b h) * wgt m z (ix2 b t) * vv m z t (col h d))
          * Ideal.exp (big m z b h - M)),
    ← sum_up c (fun z => (∑ t, Ideal.exp (sco m z b h t - big m z b h) * wgt m z (ix2 b t)) * Ideal.exp (big m z b h - M))]

end Cert.KernelIdeal.Attn
-- ==== Proof.Gathered.lean ====
/-
  The pages the reference takes: a `stablehlo.gather` of whole leading slices of a four-axis table, read at an index.
-/
module

public import proofs.«01_k».proof.Proof.Gen.ReferenceIdeal.Run
public import Idealize.ShloMosaic.Lib.Pointwise

@[expose] public section

noncomputable section

namespace Cert.ReferenceIdeal.Attn

open Cert.ReferenceIdeal Cert.ReferenceIdeal.Gen
open Idealize.ShloMosaic

/-- The page a start index names once it is read signed and clamped into the table. -/
def clampPage (x : BitVec 32) : Fin 512 := ⟨min x.toInt.toNat 511, by omega⟩

/-- The gather of pages, read at one element: the element of the page its start index names. -/
theorem gather_page {α : Type} (x : S512x16x16x64.Idx → α) (idx : IVec S16x128x1 32)
    (b : Fin 16) (j : Fin 128) (p h : Fin 16) (d : Fin 64) :
    Host.gather gather_S512x16x16x64_S16x128x1_S16x128x16x16x64_234_0_n_n_0_2_1161664 x idx (ix5 b j p h d)
      = x (ix4 (clampPage (idx (ix3 b j 0))) p h d) := by
  unfold Host.gather
  congr 1
  funext a
  refine Fin.ext ?_
  generalize hD : gather_S512x16x16x64_S16x128x1_S16x128x16x16x64_234_0_n_n_0_2_1161664 = D
  show D.start (ix5 b j p h d) idx a + D.batchCoord (ix5 b j p h d) a + D.offCoord (ix5 b j p h d) a = _
  have hob : a ∉ D.operandBatchingDims := by subst hD; exact List.not_mem_nil
  rw [GatherDims.batchCoord_eq_zero _ _ _ hob, Nat.add_zero]
  by_cases ha : a = (0 : Fin 4)
  · subst ha
    rw [GatherDims.offCoord_eq_zero _ _ _ (fun h => ((GatherDims.mem_sKept _ _).mp h).1 (by subst hD; exact List.mem_singleton.mpr rfl)), Nat.add_zero]
    unfold GatherDims.start
    rw [dif_pos (show (0 : Fin 4) ∈ D.startIndexMap by subst hD; exact List.mem_singleton.mpr rfl)]
    subst hD
    have hsi : gather_S512x16x16x64_S16x128x1_S16x128x16x16x64_234_0_n_n_0_2_1161664.siIdx (ix5 b j p h d)
        ⟨List.idxOf (0 : Fin 4) gather_S512x16x16x64_S16x128x1_S16x128x16x16x64_234_0_n_n_0_2_1161664.startIndexMap,
          List.idxOf_lt_length_iff.2 (List.mem_singleton.mpr rfl)⟩ = ix3 b j 0 := by
      funext e
      refine Fin.ext ?_
      match e with
      | ⟨0, _⟩ => rfl
      | ⟨1, _⟩ => rfl
      | ⟨2, _⟩ => rfl
    rw [hsi]
    rfl
  · have hm : a ∉ D.startIndexMap := by
      subst hD; exact fun h => ha (List.mem_singleton.mp h)
    have hs : D.start (ix5 b j p h d) idx a = 0 := by
      unfold GatherDims.start
      rw [dif_neg hm]
    rw [hs, Nat.zero_add]
    have hk : a ∈ D.sKept := (GatherDims.mem_sKept _ _).mpr
      ⟨by subst hD; exact fun h => ha (List.mem_singleton.mp h), hob⟩
    unfold GatherDims.offCoord
    rw [dif_pos hk]
    subst hD
    match a with
    | ⟨0, _⟩ => exact absurd rfl ha
    | ⟨1, _⟩ => rfl
    | ⟨2, _⟩ => rfl
    | ⟨3, _⟩ => rfl

end Cert.ReferenceIdeal.Attn
-- ==== Proof.Reference.lean ====
/-
  What the reference computes, in five named stages, each read at an index.
-/
module

public import proofs.«01_k».proof.Proof.Gathered

@[expose] public section

noncomputable section

namespace Cert.ReferenceIdeal.Attn

open Cert.ReferenceIdeal Cert.ReferenceIdeal.Gen Cert.ReferenceIdeal.Value
open Idealize.ShloMosaic Idealize.ShloMosaic.TcCoe

variable {F : FTy → Type} [FloatOps F]

/-- The page numbers as start indices: a negative one counts from the end. -/
def starts (bt : IVec S16x128 32) : IVec S16x128x1 32 :=
  broadcastInDim S16x128x1 ![0, 1] bcast_S16x128_S16x128x1_0_1
    (select (cmpi .slt bt (broadcastInDim S16x128 ![] bcast_S_S16x128 (constantI S_ 32 0#32)))
      (addi bt (broadcastInDim S16x128 ![] bcast_S_S16x128 (constantI S_ 32 512#32))) bt)

/-- The pool's rows in the order of the cached positions. -/
def taken (x : Vec F S8192x1024 .f32) (bt : IVec S16x128 32) : Vec F S16x2048x16x64 .f32 :=
  shapeCast _ (Host.gather gather_S512x16x16x64_S16x128x1_S16x128x16x16x64_234_0_n_n_0_2_1161664
    (shapeCast _ x shapeCasts_S8192x1024_S512x16x16x64) (starts bt)) shapeCasts_S16x128x16x16x64_S16x2048x16x64

/-- Which positions are valid, as a mask over sequence and position. -/
def validMask (ln : IVec S16x1 32) : IVec S16x1x2048 1 :=
  shapeCast _ (cmpi .slt (iotaInDim S16x128x16 32 1)
    (broadcastInDim S16x128x16 ![0, 1, 2] bcast_S16x1x1_S16x128x16_0_1_2
      (broadcastInDim S16x1x1 ![0, 1] bcast_S16x1_S16x1x1_0_1 ln))) shapeCasts_S16x128x16_S16x1x2048

/-- The scores, minus infinity at the positions that are not valid. -/
def scores (q : Vec F S16x1024 .f32) (x : Vec F S8192x1024 .f32) (bt : IVec S16x128 32) (ln : IVec S16x1 32) :
    Vec F S16x16x2048 .f32 :=
  select (broadcastInDim S16x16x2048 ![0, 1, 2] bcast_S16x1x2048_S16x16x2048_0_1_2 (validMask ln))
    (mulf (Host.dotGeneral dot_S16x16x64_S16x2048x16x64_S16x16x2048_2_3_n_1_01_02 none
        (shapeCast _ q shapeCasts_S16x1024_S16x16x64) (taken x bt))
      (broadcastInDim S16x16x2048 ![] bcast_S_S16x16x2048 (constant S_ .f32 0x3E000000#32)))
    (broadcastInDim S16x16x2048 ![] bcast_S_S16x16x2048 (id (constant S_ .f32 0xFF800000#32)))

/-- The largest score of each row. -/
def top (s : Vec F S16x16x2048 .f32) : Vec F S16x16 .f32 :=
  Host.reduce FloatOps.maximumf s (constant S_ .f32 0xFF800000#32) reducesTo_S16x16x2048_S16x16_d2 h_S_

/-- The exponentials of the scores less their row's largest. -/
def powers (s : Vec F S16x16x2048 .f32) : Vec F S16x16x2048 .f32 :=
  Host.exp (subf s (broadcastInDim S16x16x2048 ![0, 1, 2] bcast_S16x16x1_S16x16x2048_0_1_2
    (broadcastInDim S16x16x1 ![0, 1] bcast_S16x16_S16x16x1_0_1 (top s))))

/-- The softmax of the scores, applied to the rows of V. -/
def applied (e : Vec F S16x16x2048 .f32) (v : Vec F S16x2048x16x64 .f32) : Vec F S16x1x16x64 .f32 :=
  broadcastInDim S16x1x16x64 ![0, 2, 3] bcast_S16x16x64_S16x1x16x64_0_2_3
    (Host.dotGeneral dot_S16x16x2048_S16x2048x16x64_S16x16x64_2_1_n_3_01_02 none
      (Host.divf e (broadcastInDim S16x16x2048 ![0, 1, 2] bcast_S16x16x1_S16x16x2048_0_1_2
        (broadcastInDim S16x16x1 ![0, 1] bcast_S16x16_S16x16x1_0_1
          (Host.reduceAdd e (constant S_ .f32 0x00000000#32) reducesTo_S16x16x2048_S16x16_d2 h_S_)))) v)

set_option maxRecDepth 16384 in
/-- The reference's result is these stages, one after the other. -/
theorem result_eq (m : (ℓ : Loc nD τ sig) → Buf (Elt F) ℓ) (c : Dev nD) :
    res_main_v38 m c = applied (powers (scores (m ((c.tc : Thread nD τ).loc main_arg0)) (m ((c.tc : Thread nD τ).loc main_arg1))
        (m ((c.tc : Thread nD τ).loc main_arg3)) (m ((c.tc : Thread nD τ).loc main_arg4))))
      (taken (m ((c.tc : Thread nD τ).loc main_arg2)) (m ((c.tc : Thread nD τ).loc main_arg3))) := rfl

/-! ## The stages, read at an element -/

/-- The pool row of a cached position. -/
def poolRow (bt : IVec S16x128 32) (b : Fin 16) (k : Fin 2048) : Fin 8192 :=
  ⟨(clampPage (starts bt (ix3 b ⟨k.val / 16, by omega⟩ 0))).val * 16 + k.val % 16, by omega⟩

/-- The column of a head's element. -/
def col (h : Fin 16) (d : Fin 64) : Fin 1024 := ⟨h.val * 64 + d.val, by omega⟩

set_option maxRecDepth 16384 in
theorem starts_apply (bt : IVec S16x128 32) (b : Fin 16) (j : Fin 128) :
    starts bt (ix3 b j 0)
      = Scalar.select (IntOp.cmpi .slt (bt (ix2 b j)) 0#32) (IntOp.addi (bt (ix2 b j)) 512#32) (bt (ix2 b j)) := by
  pointwise [starts]

set_option maxRecDepth 16384 in
theorem taken_apply (x : Vec Ideal S8192x1024 .f32) (bt : IVec S16x128 32) (b h : Fin 16) (k : Fin 2048) (d : Fin 64) :
    taken x bt (ix4 b k h d) = x (ix2 (poolRow bt b k) (col h d)) := by
  pointwise [taken, gather_page]
  rfl

/-- The score of a cached position, minus infinity where the position is not valid. -/
def score (q : Vec Ideal S16x1024 .f32) (x : Vec Ideal S8192x1024 .f32) (bt : IVec S16x128 32) (ln : IVec S16x1 32)
    (b h : Fin 16) (k : Fin 2048) : EReal :=
  Scalar.select (IntOp.cmpi .slt (BitVec.ofNat 32 (k.val / 16)) (ln (ix2 b 0)))
    ((∑ y, q (ix2 b (col h y)) * x (ix2 (poolRow bt b k) (col h y))) * Ideal.ofBits FTy.f32 0x3E000000#32)
    (Ideal.ofBits FTy.f32 0xFF800000#32)

set_option maxRecDepth 16384 in
theorem scores_apply (q : Vec Ideal S16x1024 .f32) (x : Vec Ideal S8192x1024 .f32) (bt : IVec S16x128 32) (ln : IVec S16x1 32)
    (b h : Fin 16) (k : Fin 2048) : scores q x bt ln (ix3 b h k) = score q x bt ln b h k := by
  pointwise [scores, validMask]
  simp only [taken_apply]
  rfl

set_option maxRecDepth 16384 in
theorem powers_apply (s : Vec Ideal S16x16x2048 .f32) (b h : Fin 16) (k : Fin 2048) :
    powers s (ix3 b h k) = Ideal.exp (s (ix3 b h k)
      - Finset.fold max (Ideal.ofBits FTy.f32 0xFF800000#32) (fun k => s (ix3 b h k)) Finset.univ) := by
  pointwise [powers, top]

set_option maxRecDepth 16384 in
theorem applied_apply (e : Vec Ideal S16x16x2048 .f32) (v : Vec Ideal S16x2048x16x64 .f32) (b h : Fin 16) (d : Fin 64) :
    applied e v (ix4 b 0 h d) = ∑ k, Ideal.div (e (ix3 b h k)) (∑ k, e (ix3 b h k)) * v (ix4 b k h d) := by
  pointwise [applied]

/-- The whole, at one element, with `M` the largest score. -/
theorem value_apply (q : Vec Ideal S16x1024 .f32) (x v : Vec Ideal S8192x1024 .f32) (bt : IVec S16x128 32) (ln : IVec S16x1 32)
    (b h : Fin 16) (d : Fin 64) (M : EReal)
    (hM : M = Finset.fold max (Ideal.ofBits FTy.f32 0xFF800000#32) (fun k => score q x bt ln b h k) Finset.univ) :
    applied (powers (scores q x bt ln)) (taken v bt) (ix4 b 0 h d)
      = ∑ k, Ideal.div (Ideal.exp (score q x bt ln b h k - M)) (∑ k, Ideal.exp (score q x bt ln b h k - M))
          * v (ix2 (poolRow bt b k) (col h d)) := by
  rw [applied_apply]
  simp only [powers_apply, scores_apply, taken_apply, ← hM]

end Cert.ReferenceIdeal.Attn
-- ==== Proof.Count.lean ====
/-
  The count of a row on its device is the number of cached positions that read the row.
-/
module

public import proofs.«01_k».proof.Proof.KernelValue
public import proofs.«01_k».proof.Proof.Reference

@[expose] public section

noncomputable section

namespace Cert.Attn

open Idealize.ShloMosaic Idealize.ShloMosaic.StableHlo.Predicate
open Cert.KernelIdeal (S16x128 S16x1 nD)
open Cert.KernelIdeal.Attn (Hit)
open Cert.ReferenceIdeal.Attn (poolRow clampPage starts starts_apply)

/-- Cached position `k` of sequence `b` is valid: its page comes before the sequence's length. -/
def Valid (ln : IVec S16x1 32) (b : Fin 16) (k : Fin 2048) : Prop :=
  IntOp.cmpi .slt (BitVec.ofNat 32 (k.val / 16)) (ln (ix2 b 0)) = 1#1

instance (ln : IVec S16x1 32) (b : Fin 16) : DecidablePred (Valid ln b) := fun _ => inferInstanceAs (Decidable (_ = _))

/-- The device and the row of its block that a cached position reads. -/
def place (bt : IVec S16x128 32) (b : Fin 16) (k : Fin 2048) : Dev nD × Fin 2048 :=
  (⟨(poolRow bt b k).val / 2048, by have := (poolRow bt b k).isLt; show _ < 4; omega⟩,
    ⟨(poolRow bt b k).val % 2048, Nat.mod_lt _ (by decide)⟩)

/-- A page number in range is taken as it is. -/
theorem clamp_start (bt : IVec S16x128 32) (b : Fin 16) (j : Fin 128) (h : (bt (ix2 b j)).toNat < 512) :
    (clampPage (starts bt (ix3 b j 0))).val = (bt (ix2 b j)).toNat := by
  rw [starts_apply]
  have hz : ¬ IntOp.cmpi .slt (bt (ix2 b j)) 0#32 = 1#1 := by
    rw [slt_iff_toNat (by omega) (by decide)]
    exact Nat.not_lt_zero _
  have hs : Scalar.select (IntOp.cmpi .slt (bt (ix2 b j)) 0#32) (IntOp.addi (bt (ix2 b j)) 512#32) (bt (ix2 b j))
      = bt (ix2 b j) := if_neg hz
  rw [hs]
  show min (bt (ix2 b j)).toInt.toNat 511 = _
  rw [toInt_eq_toNat_of_lt (by omega)]
  omega

theorem poolRow_val (bt : IVec S16x128 32) (b : Fin 16) (k : Fin 2048) (hk : k.val / 16 < 128)
    (h : (bt (ix2 b ⟨k.val / 16, hk⟩)).toNat < 512) :
    (poolRow bt b k).val = (bt (ix2 b ⟨k.val / 16, hk⟩)).toNat * 16 + k.val % 16 := by
  show (clampPage _).val * 16 + _ = _
  rw [clamp_start bt b _ h]

theorem place_eq (bt : IVec S16x128 32) (b : Fin 16) (k : Fin 2048) (z : Dev nD) (t : Fin 2048) :
    place bt b k = (z, t) ↔ (poolRow bt b k).val = 2048 * z.val + t.val := by
  have hz : z.val < 4 := z.isLt
  constructor
  · intro h
    have h1 : (poolRow bt b k).val / 2048 = z.val := congrArg (fun x => x.1.val) h
    have h2 : (poolRow bt b k).val % 2048 = t.val := congrArg (fun x => x.2.val) h
    omega
  · intro h
    refine Prod.ext (Fin.ext ?_) (Fin.ext ?_)
    · show (poolRow bt b k).val / 2048 = z.val
      omega
    · show (poolRow bt b k).val % 2048 = t.val
      omega

/-- The word equation of a hit, as one of numbers. -/
theorem hit_word (x : BitVec 32) (hx : x.toNat < 512) (z p : ℕ) (hz : z < 4) (hp : p < 128) :
    x - BitVec.ofNat 32 (128 * z) = BitVec.ofNat 32 p ↔ x.toNat = 128 * z + p := by
  constructor
  · intro h
    have := congrArg BitVec.toNat h
    simp only [BitVec.toNat_sub, BitVec.toNat_ofNat] at this
    omega
  · intro h
    apply BitVec.eq_of_toNat_eq
    simp only [BitVec.toNat_sub, BitVec.toNat_ofNat]
    omega

/-- With every valid page number in range, the count of a row is the number of valid positions that read it. -/
theorem card_hit (bt : IVec S16x128 32) (ln : IVec S16x1 32) (b : Fin 16)
    (hpage : ∀ j : Fin 128, IntOp.cmpi .slt (BitVec.ofNat 32 j.val) (ln (ix2 b 0)) = 1#1 → (bt (ix2 b j)).toNat < 512)
    (z : Dev nD) (t : Fin 2048) :
    (Finset.univ.filter (Hit z bt ln b (t.val / 16))).card
      = (Finset.univ.filter fun k => Valid ln b k ∧ place bt b k = (z, t)).card := by
  have hz : z.val < 4 := z.isLt
  have ht := t.isLt
  refine Finset.card_bij (fun j _ => (⟨16 * j.val + t.val % 16, by omega⟩ : Fin 2048)) ?_ ?_ ?_
  · intro j hj
    obtain ⟨h1, h2⟩ := (Finset.mem_filter.mp hj).2
    have hdiv : (16 * j.val + t.val % 16) / 16 = j.val := by omega
    have hb := hpage j h2
    rw [hit_word _ hb _ _ hz (by omega)] at h1
    refine Finset.mem_filter.mpr ⟨Finset.mem_univ _, ?_, ?_⟩
    · show IntOp.cmpi .slt (BitVec.ofNat 32 ((16 * j.val + t.val % 16) / 16)) _ = 1#1
      rw [hdiv]; exact h2
    · have hj' : (⟨(16 * j.val + t.val % 16) / 16, by omega⟩ : Fin 128) = j := Fin.ext hdiv
      rw [place_eq, poolRow_val bt b _ (by show (16 * j.val + t.val % 16) / 16 < 128; omega) (by show (bt (ix2 b ⟨(16 * j.val + t.val % 16) / 16, _⟩)).toNat < 512; rw [hj']; exact hb)]
      show (bt (ix2 b ⟨(16 * j.val + t.val % 16) / 16, _⟩)).toNat * 16 + (16 * j.val + t.val % 16) % 16 = _
      rw [hj', h1]
      omega
  · intro j _ j' _ h
    have := congrArg Fin.val h
    exact Fin.ext (by simp only at this; omega)
  · intro k hk
    obtain ⟨h1, h2⟩ := (Finset.mem_filter.mp hk).2
    have hk' := k.isLt
    have hd : k.val / 16 < 128 := by omega
    have hb := hpage ⟨k.val / 16, hd⟩ h1
    rw [place_eq, poolRow_val bt b k hd hb] at h2
    refine ⟨⟨k.val / 16, hd⟩, Finset.mem_filter.mpr ⟨Finset.mem_univ _, ?_, h1⟩, Fin.ext ?_⟩
    · rw [hit_word _ hb _ _ hz (by omega)]
      omega
    · show 16 * (k.val / 16) + t.val % 16 = k.val
      omega

end Cert.Attn
-- ==== Proof.Softmax.lean ====
/- The arithmetic of the claim: partial softmax sums over parts of the tokens, each taken from a shift of its own and
   each token weighted by how often it is named, combine to the softmax over the named positions. Scores are real;
   values are any extended reals. -/
module

public import Idealize.ShloMosaic.PureOps.Ideal

@[expose] public section

noncomputable section

namespace Cert.Softmax

open Idealize.ShloMosaic

section Sums

variable {ι : Type} [DecidableEq ι]

theorem sum_coe (S : Finset ι) (f : ι → ℝ) : ∑ i ∈ S, (f i : EReal) = ((∑ i ∈ S, f i : ℝ) : EReal) := by
  induction S using Finset.induction_on with
  | empty => simp
  | insert a S ha ih => rw [Finset.sum_insert ha, Finset.sum_insert ha, ih, EReal.coe_add]

/-- A factor that is a real and not negative distributes over any sum. -/
theorem sum_mul_coe (S : Finset ι) (f : ι → EReal) (r : ℝ) (hr : 0 ≤ r) :
    (∑ i ∈ S, f i) * (r : EReal) = ∑ i ∈ S, f i * (r : EReal) := by
  induction S using Finset.induction_on with
  | empty => simp
  | insert a S ha ih =>
    rw [Finset.sum_insert ha, Finset.sum_insert ha, ← ih]
    exact EReal.right_distrib_of_nonneg_of_ne_top (EReal.coe_nonneg.mpr hr) (EReal.coe_ne_top r) _ _

/-- The greatest of finitely many reals is a real, -/
theorem fold_max_real (S : Finset ι) (hS : S.Nonempty) (f : ι → EReal) (hf : ∀ i ∈ S, ∃ r : ℝ, f i = r) :
    ∃ r : ℝ, S.fold max ⊥ f = r := by
  induction hS using Finset.Nonempty.cons_induction with
  | singleton a =>
    obtain ⟨r, hr⟩ := hf a (Finset.mem_singleton_self a)
    exact ⟨r, by rw [Finset.fold_singleton, hr]; exact max_bot_right _⟩
  | cons a S ha hS ih =>
    obtain ⟨r, hr⟩ := hf a (Finset.mem_cons_self a S)
    obtain ⟨r', hr'⟩ := ih fun i hi => hf i (Finset.mem_cons_of_mem hi)
    exact ⟨max r r', by rw [Finset.fold_cons, hr, hr']; exact (EReal.coe_strictMono.monotone.map_max).symm⟩

/-- and so is the greatest of reals and `⊥`s among which there is a real. -/
theorem fold_max_mixed (S : Finset ι) (f : ι → EReal) (hf : ∀ i ∈ S, f i = ⊥ ∨ ∃ r : ℝ, f i = r)
    (hS : ∃ i ∈ S, ∃ r : ℝ, f i = r) : ∃ r : ℝ, S.fold max ⊥ f = r := by
  have key : ∀ S : Finset ι, (∀ i ∈ S, f i = ⊥ ∨ ∃ r : ℝ, f i = r) →
      (S.fold max ⊥ f = ⊥ ∧ ∀ i ∈ S, f i = ⊥) ∨ ∃ r : ℝ, S.fold max ⊥ f = r := by
    intro S
    induction S using Finset.induction_on with
    | empty => exact fun _ => Or.inl ⟨Finset.fold_empty, fun i hi => absurd hi (Finset.notMem_empty i)⟩
    | insert a S ha ih =>
      intro h
      rw [Finset.fold_insert ha]
      rcases h a (Finset.mem_insert_self a S) with h0 | ⟨r, hr⟩
      · rcases ih fun i hi => h i (Finset.mem_insert_of_mem hi) with ⟨h1, h2⟩ | ⟨r, hr⟩
        · refine Or.inl ⟨by rw [h0, h1]; exact max_self _, fun i hi => ?_⟩
          rcases Finset.mem_insert.mp hi with rfl | hi
          · exact h0
          · exact h2 i hi
        · exact Or.inr ⟨r, by rw [h0, hr]; exact max_bot_left _⟩
      · rcases ih fun i hi => h i (Finset.mem_insert_of_mem hi) with ⟨h1, _⟩ | ⟨r', hr'⟩
        · exact Or.inr ⟨r, by rw [hr, h1]; exact max_bot_right _⟩
        · exact Or.inr ⟨max r r', by rw [hr, hr']; exact (EReal.coe_strictMono.monotone.map_max).symm⟩
  rcases key S hf with ⟨_, h⟩ | h
  · obtain ⟨i, hi, r, hr⟩ := hS
    exact absurd (hr.symm.trans (h i hi)) (EReal.coe_ne_bot r)
  · exact h

end Sums

variable {Z T J : Type} [Fintype Z] [Fintype T] [Fintype J] [DecidableEq Z] [DecidableEq T] [DecidableEq J]

/-- A sum over named positions, collected by the token each names. -/
theorem sum_named {A : Type} [AddCommMonoid A] (valid : J → Prop) [DecidablePred valid] (row : J → Z × T) (n : Z → T → ℕ)
    (hn : ∀ z t, n z t = (Finset.univ.filter fun j => valid j ∧ row j = (z, t)).card) (f : Z × T → A) :
    ∑ z, ∑ t, n z t • f (z, t) = ∑ j ∈ Finset.univ.filter valid, f (row j) := by
  rw [← Fintype.sum_prod_type' (fun z t => n z t • f (z, t)),
    ← Finset.sum_fiberwise_of_maps_to (s := Finset.univ.filter valid) (t := Finset.univ) (g := row)
      (fun j _ => Finset.mem_univ _)]
  refine Finset.sum_congr rfl fun x _ => ?_
  rw [Finset.sum_congr rfl (fun j hj => congrArg f (Finset.mem_filter.mp hj).2), Finset.sum_const, hn, Finset.filter_filter]

/-- The combined partial sums are the softmax over the named positions. -/
theorem combined (valid : J → Prop) [DecidablePred valid] (hv : ∃ j, valid j) (row : J → Z × T) (n : Z → T → ℕ)
    (hn : ∀ z t, n z t = (Finset.univ.filter fun j => valid j ∧ row j = (z, t)).card)
    (s : Z × T → ℝ) (v : Z × T → EReal) (c : ℝ) (m : Z → ℝ) (M M' : ℝ) :
    Ideal.div
        (∑ z, (∑ t, Ideal.exp ((if 0 < n z t then (s (z, t) : EReal) else (c : EReal)) - (m z : EReal))
          * ((n z t : ℝ) : EReal) * v (z, t)) * Ideal.exp ((m z : EReal) - (M : EReal)))
        (∑ z, (∑ t, Ideal.exp ((if 0 < n z t then (s (z, t) : EReal) else (c : EReal)) - (m z : EReal))
          * ((n z t : ℝ) : EReal)) * Ideal.exp ((m z : EReal) - (M : EReal)))
      = ∑ j, Ideal.div (Ideal.exp ((if valid j then (s (row j) : EReal) else ⊥) - (M' : EReal)))
          (∑ j, Ideal.exp ((if valid j then (s (row j) : EReal) else ⊥) - (M' : EReal))) * v (row j) := by
  have he : ∀ z t, Ideal.exp ((if 0 < n z t then (s (z, t) : EReal) else (c : EReal)) - (m z : EReal)) * ((n z t : ℝ) : EReal)
      = ((Real.exp (s (z, t) - m z) * n z t : ℝ) : EReal) := by
    intro z t
    by_cases h : 0 < n z t
    · rw [if_pos h, ← EReal.coe_sub, Ideal.exp_coe, ← EReal.coe_mul]
    · rw [if_neg h, ← EReal.coe_sub, Ideal.exp_coe, ← EReal.coe_mul, Nat.eq_zero_of_not_pos h]; simp
  have hs : ∀ z t, Real.exp (s (z, t) - m z) * n z t * Real.exp (m z - M) = n z t • Real.exp (s (z, t) - M) := by
    intro z t
    rw [nsmul_eq_mul, mul_right_comm, ← Real.exp_add, show s (z, t) - m z + (m z - M) = s (z, t) - M by ring, mul_comm]
  have hden : (∑ z, (∑ t, Ideal.exp ((if 0 < n z t then (s (z, t) : EReal) else (c : EReal)) - (m z : EReal))
          * ((n z t : ℝ) : EReal)) * Ideal.exp ((m z : EReal) - (M : EReal)))
      = ((∑ j ∈ Finset.univ.filter valid, Real.exp (s (row j) - M) : ℝ) : EReal) := by
    rw [← sum_named valid row n hn fun x => Real.exp (s x - M), ← sum_coe]
    refine Finset.sum_congr rfl fun z _ => ?_
    rw [Finset.sum_congr rfl fun t _ => he z t, ← EReal.coe_sub, Ideal.exp_coe, sum_coe, ← EReal.coe_mul, Finset.sum_mul]
    exact congrArg _ (Finset.sum_congr rfl fun t _ => hs z t)
  have hnum : (∑ z, (∑ t, Ideal.exp ((if 0 < n z t then (s (z, t) : EReal) else (c : EReal)) - (m z : EReal))
          * ((n z t : ℝ) : EReal) * v (z, t)) * Ideal.exp ((m z : EReal) - (M : EReal)))
      = ∑ j ∈ Finset.univ.filter valid, (Real.exp (s (row j) - M) : EReal) * v (row j) := by
    rw [← sum_named valid row n hn fun x => (Real.exp (s x - M) : EReal) * v x]
    refine Finset.sum_congr rfl fun z _ => ?_
    rw [← EReal.coe_sub, Ideal.exp_coe, sum_mul_coe _ _ _ (Real.exp_pos _).le]
    refine Finset.sum_congr rfl fun t _ => ?_
    rw [he, mul_right_comm, ← EReal.coe_mul, hs, EReal.nsmul_eq_mul, ← mul_assoc, nsmul_eq_mul, EReal.coe_mul]
    rfl
  set D := ∑ j ∈ Finset.univ.filter valid, Real.exp (s (row j) - M) with hD
  have hDpos : 0 < D := by
    obtain ⟨j, hj⟩ := hv
    exact Finset.sum_pos (fun j _ => Real.exp_pos _) ⟨j, Finset.mem_filter.mpr ⟨Finset.mem_univ _, hj⟩⟩
  have hsh : ∀ x, Real.exp (s x - M') = Real.exp (s x - M) * Real.exp (M - M') := fun x => by
    rw [← Real.exp_add]; congr 1; ring
  have hterm : ∀ j, Ideal.exp ((if valid j then (s (row j) : EReal) else ⊥) - (M' : EReal))
      = ((if valid j then Real.exp (s (row j) - M') else 0 : ℝ) : EReal) := by
    intro j
    by_cases h : valid j
    · rw [if_pos h, if_pos h, ← EReal.coe_sub, Ideal.exp_coe]
    · rw [if_neg h, if_neg h, EReal.bot_sub, Ideal.exp_bot, EReal.coe_zero]
  have hsum : (∑ j, Ideal.exp ((if valid j then (s (row j) : EReal) else ⊥) - (M' : EReal)))
      = ((D * Real.exp (M - M') : ℝ) : EReal) := by
    rw [Finset.sum_congr rfl fun j _ => hterm j, sum_coe, ← Finset.sum_filter, hD, Finset.sum_mul]
    exact congrArg _ (Finset.sum_congr rfl fun j _ => hsh _)
  rw [hden, hnum, hsum, Ideal.div_coe hDpos.ne', sum_mul_coe _ _ _ (by positivity), Finset.sum_filter]
  refine Finset.sum_congr rfl fun j _ => ?_
  rw [Ideal.div_coe (mul_pos hDpos (Real.exp_pos _)).ne', hterm]
  by_cases h : valid j
  · rw [if_pos h, if_pos h, mul_right_comm, ← EReal.coe_mul, ← EReal.coe_mul, hsh]
    congr 2
    have := (Real.exp_pos (M - M')).ne'
    have := hDpos.ne'
    field_simp
  · rw [if_neg h, if_neg h, EReal.coe_zero, zero_mul, zero_mul]

end Cert.Softmax
-- ==== Proof.Agree.lean ====
/-
  The kernel's stored element and the reference's are equal: both are the softmax of one family of scores.
-/
module

public import proofs.«01_k».proof.Proof.Count
public import proofs.«01_k».proof.Proof.Softmax

@[expose] public section

noncomputable section

namespace Cert.Attn

open Idealize.ShloMosaic Idealize.SL.Sem
open Cert.KernelIdeal (nD τ sig S16x128 S16x1)
open Cert.KernelIdeal.Attn (Hit qv kv vv bts lns sco big wgt cnt sco_apply xb_eq xl_eq xq_apply xk_apply xv_apply
  weight_apply counted_apply res res_apply)
open Cert.ReferenceIdeal.Attn (poolRow score)

/-! ## The constants -/

theorem bits_bot : Ideal.ofBits .f32 0xFF800000#32 = ⊥ := by
  simp [Ideal.ofBits, Ideal.ieee]

/-- A pattern whose exponent is not all ones is a real. -/
theorem bits_real (w : BitVec 32) (h : (w.extractLsb' 23 8).toNat ≠ 255) : ∃ r : ℝ, Ideal.ofBits .f32 w = (r : EReal) := by
  show ∃ r : ℝ, Ideal.ieee 8 23 w = (r : EReal)
  unfold Ideal.ieee
  dsimp only
  rw [if_neg (show ¬ (w.extractLsb' 23 8).toNat = 2 ^ 8 - 1 from h)]
  split
  · exact ⟨_, rfl⟩
  · exact ⟨_, rfl⟩

/-! ## The equality -/

variable (m : (ℓ : Loc nD τ sig) → Buf (Elt Ideal) ℓ)
variable (q : Vec Ideal Cert.ReferenceIdeal.S16x1024 .f32) (x v : Vec Ideal Cert.ReferenceIdeal.S8192x1024 .f32)
  (bt : IVec S16x128 32) (ln : IVec S16x1 32)

/-- The pool row of row `t` of device `z`. -/
def pool (z : Dev nD) (t : Fin 2048) : Fin 8192 := ⟨2048 * z.val + t.val, by have : z.val < 4 := z.isLt; omega⟩

theorem pool_place (b : Fin 16) (k : Fin 2048) : pool (place bt b k).1 (place bt b k).2 = poolRow bt b k := by
  refine Fin.ext ?_
  exact ((place_eq bt b k _ _).mp rfl).symm

theorem agree
    (hq : ∀ c b j, qv m c b j = q (ix2 b j)) (hk : ∀ c t j, kv m c t j = x (ix2 (pool c t) j))
    (hv : ∀ c t j, vv m c t j = v (ix2 (pool c t) j)) (hb : ∀ c, bts m c = bt) (hl : ∀ c, lns m c = ln)
    (fq : ∀ b j, ∃ r : ℝ, q (ix2 b j) = (r : EReal)) (fx : ∀ z t j, ∃ r : ℝ, x (ix2 (pool z t) j) = (r : EReal))
    (b : Fin 16)
    (hpage : ∀ j : Fin 128, IntOp.cmpi .slt (BitVec.ofNat 32 j.val) (ln (ix2 b 0)) = 1#1 → (bt (ix2 b j)).toNat < 512)
    (hone : IntOp.cmpi .slt (BitVec.ofNat 32 0) (ln (ix2 b 0)) = 1#1)
    (c : Dev nD) (h : Fin 16) (d : Fin 64) :
    res m c (ix4 b 0 h d) = Cert.ReferenceIdeal.Attn.applied
      (Cert.ReferenceIdeal.Attn.powers (Cert.ReferenceIdeal.Attn.scores q x bt ln)) (Cert.ReferenceIdeal.Attn.taken v bt)
      (ix4 b 0 h d) := by
  choose rq hrq using fq
  choose rx hrx using fx
  obtain ⟨w, hw⟩ := bits_real 0x3E000000#32 (by decide)
  obtain ⟨low, hlow⟩ := bits_real 0xF149F2CA#32 (by decide)
  -- the score of a row of a device
  let s : Dev nD × Fin 2048 → ℝ := fun p =>
    (∑ y, rq b (Cert.KernelIdeal.Attn.col h y) * rx p.1 p.2 (Cert.KernelIdeal.Attn.col h y)) * w
  have hs : ∀ z t, (∑ y, q (ix2 b (Cert.KernelIdeal.Attn.col h y)) * x (ix2 (pool z t) (Cert.KernelIdeal.Attn.col h y)))
      * Ideal.ofBits FTy.f32 0x3E000000#32 = (s (z, t) : EReal) := by
    intro z t
    simp only [hrq, hrx, hw, ← EReal.coe_mul, Cert.Softmax.sum_coe]
    rfl
  let n : Dev nD → Fin 2048 → ℕ := fun z t => (Finset.univ.filter (Hit z bt ln b (t.val / 16))).card
  have hwgt : ∀ z t, wgt m z (ix2 b t) = ((n z t : ℝ) : EReal) := by
    intro z t
    show Cert.KernelIdeal.Attn.weight z _ _ _ = _
    rw [xb_eq, xl_eq, hb, hl, weight_apply]
  have hsco : ∀ z t, sco m z b h t = if 0 < n z t then (s (z, t) : EReal) else (low : EReal) := by
    intro z t
    rw [sco_apply]
    have hc : cnt m z (ix2 b t) = 1#1 ↔ 0 < n z t := by
      show Cert.KernelIdeal.Attn.counted z _ _ _ = 1#1 ↔ _
      rw [xb_eq, xl_eq, hb, hl, counted_apply]
    simp only [hq, hk, hs, hlow]
    exact if_congr hc rfl rfl
  have hscoR : ∀ z t, ∃ r : ℝ, sco m z b h t = (r : EReal) := by
    intro z t
    rw [hsco]
    split
    · exact ⟨_, rfl⟩
    · exact ⟨_, rfl⟩
  have hbig : ∀ z, ∃ r : ℝ, big m z b h = (r : EReal) := by
    intro z
    unfold big
    rw [bits_bot]
    exact Cert.Softmax.fold_max_real _ Finset.univ_nonempty _ fun t _ => hscoR z t
  choose mz hmz using hbig
  obtain ⟨M, hM⟩ := Cert.Softmax.fold_max_real (Finset.univ : Finset (Fin 4)) Finset.univ_nonempty
    (fun s => big m (Cert.KernelIdeal.Attn.up c s) b h) fun s _ => ⟨_, hmz _⟩
  -- the reference's score of a cached position
  have hscore : ∀ k, score q x bt ln b h k = if Valid ln b k then (s (place bt b k) : EReal) else ⊥ := by
    intro k
    have h1 := hs (place bt b k).1 (place bt b k).2
    rw [pool_place] at h1
    unfold score
    rw [bits_bot]
    show Scalar.select _ ((∑ y, q (ix2 b (Cert.KernelIdeal.Attn.col h y)) * x (ix2 (poolRow bt b k) (Cert.KernelIdeal.Attn.col h y)))
      * Ideal.ofBits FTy.f32 0x3E000000#32) _ = _
    rw [h1]
    rfl
  have hvalid : Valid ln b 0 := hone
  obtain ⟨M', hM'⟩ := Cert.Softmax.fold_max_mixed (Finset.univ : Finset (Fin 2048)) (fun k => score q x bt ln b h k)
    (fun k _ => by
      show score q x bt ln b h k = ⊥ ∨ ∃ r : ℝ, score q x bt ln b h k = (r : EReal)
      rw [hscore]
      split
      · exact .inr ⟨_, rfl⟩
      · exact .inl rfl)
    ⟨0, Finset.mem_univ _, by
      show ∃ r : ℝ, score q x bt ln b h 0 = (r : EReal)
      rw [hscore, if_pos hvalid]
      exact ⟨_, rfl⟩⟩
  rw [res_apply m c b h d M (by rw [bits_bot, hM]),
    Cert.ReferenceIdeal.Attn.value_apply q x v bt ln b h d M' (by rw [bits_bot, hM'])]
  simp only [hsco, hwgt, hmz, hscore, hv]
  have := Cert.Softmax.combined (Valid ln b) ⟨0, hvalid⟩ (place bt b) n (fun z t => card_hit bt ln b hpage z t) s
    (fun p => v (ix2 (pool p.1 p.2) (Cert.KernelIdeal.Attn.col h d))) low mz M M'
  simp only [pool_place] at this
  exact this

end Cert.Attn
-- ==== Proof.Precondition.lean ====
/-
  What the precondition says of a device's blocks, element by element.
-/
module

public import proofs.«01_k».proof.Defs
public import Idealize.ShloMosaic.Lib.Pointwise
public import Idealize.ShloMosaic.Lib.StableHlo.Predicate

@[expose] public section

noncomputable section

namespace Cert.Attn

open Idealize.ShloMosaic Idealize.ShloMosaic.StableHlo.Predicate

/-- The shapes the precondition broadcasts, at one device's blocks. -/
theorem pre_facts_kernel : Cert.Pre_softmax_defined_KernelIdeal.Facts where
  bcast_S_S16x1024 := by decide
  bcast_S_S2048x1024 := by decide
  bcast_S_S16x1 := by decide
  bcast_S16x1_S16x128_0_1 := by decide
  bcast_S_S16x128 := by decide

/-- The shapes the precondition broadcasts, at the whole arrays. -/
theorem pre_facts_reference : Cert.Pre_softmax_defined_ReferenceIdeal.Facts where
  bcast_S_S16x1024 := by decide
  bcast_S_S8192x1024 := by decide
  bcast_S_S16x1 := by decide
  bcast_S16x1_S16x128_0_1 := by decide
  bcast_S_S16x128 := by decide

section
open Cert.Pre_softmax_defined_KernelIdeal

attribute [local instance] pre_facts_kernel

variable (q : Vec Ideal S16x1024 .f32) (k v : Vec Ideal S2048x1024 .f32) (bt : IVec S16x128 32) (ln : IVec S16x1 32)

/-- An extended real of absolute value below infinity is a real. -/
theorem real_of_abs (x : EReal) (h : BitVec.ofBool (decide (max x (-x) < Ideal.ofBits .f32 0x7F800000#32)) = 1#1) :
    ∃ r : ℝ, x = (r : EReal) := by
  rw [ofBool_eq_one_iff, decide_eq_true_eq, show Ideal.ofBits .f32 0x7F800000#32 = ⊤ by simp [Ideal.ofBits, Ideal.ieee]] at h
  induction x using EReal.rec with
  | bot => exact absurd h (by simp)
  | coe r => exact ⟨r, rfl⟩
  | top => exact absurd h (by simp)

set_option maxRecDepth 16384 in
/-- Every query element is real. -/
theorem pre_q (b : Fin 16) (j : Fin 1024) (h : (fn (F := Ideal) q k v bt ln).1 = fun _ => 1#1) :
    ∃ r : ℝ, q (ix2 b j) = (r : EReal) := by
  have h1 := congrFun h (ix2 b j)
  revert h1
  pointwise [fn]
  exact real_of_abs _

set_option maxRecDepth 16384 in
/-- Every key element of the block is real. -/
theorem pre_k (t : Fin 2048) (j : Fin 1024) (h : (fn (F := Ideal) q k v bt ln).2.1 = fun _ => 1#1) :
    ∃ r : ℝ, k (ix2 t j) = (r : EReal) := by
  have h1 := congrFun h (ix2 t j)
  revert h1
  pointwise [fn]
  exact real_of_abs _

set_option maxRecDepth 16384 in
/-- Every row reads its first page at least. -/
theorem pre_len (b : Fin 16) (h : (fn (F := Ideal) q k v bt ln).2.2.1 = fun _ => 1#1) :
    IntOp.cmpi .slt (BitVec.ofNat 32 0) (ln (ix2 b 0)) = 1#1 := by
  have h1 := congrFun h (ix2 b 0)
  revert h1
  pointwise [fn]
  generalize ln (ix2 b 0) = w
  show BitVec.ofBool ((1#32).sle w) = 1#1 → BitVec.ofBool ((0#32).slt w) = 1#1
  rw [ofBool_eq_one_iff, ofBool_eq_one_iff, BitVec.sle_iff_toInt_le, BitVec.slt_iff_toInt_lt]
  intro h
  have e1 : (1#32).toInt = 1 := by decide
  have e0 : (0#32).toInt = 0 := by decide
  omega

set_option maxRecDepth 16384 in
/-- A position the row reads names one of the 512 pages. -/
theorem pre_page (b : Fin 16) (h : (fn (F := Ideal) q k v bt ln).2.2.2 = fun _ => 1#1) (j : Fin 128)
    (hj : IntOp.cmpi .slt (BitVec.ofNat 32 j.val) (ln (ix2 b 0)) = 1#1) : (bt (ix2 b j)).toNat < 512 := by
  have h1 := congrFun h (ix2 b j)
  revert h1 hj
  pointwise [fn]
  generalize ln (ix2 b 0) = w
  generalize bt (ix2 b j) = p
  generalize BitVec.ofNat 32 j.val = n
  intro hj h1
  have hj' : n.toInt < w.toInt := BitVec.slt_iff_toInt_lt.mp ((ofBool_eq_one_iff _).mp hj)
  have hn : IntOp.cmpi .sge n w = 0#1 := by
    show BitVec.ofBool (w.sle n) = 0#1
    rw [show w.sle n = false by
      rw [Bool.eq_false_iff, Ne, BitVec.sle_iff_toInt_le]; omega]
    rfl
  rw [hn] at h1
  have both : ∀ x y : BitVec 1, IntOp.ori 0#1 (IntOp.andi x y) = 1#1 → x = 1#1 ∧ y = 1#1 := by decide
  obtain ⟨ha, hb⟩ := both _ _ h1
  have ha' : (0#32).toInt ≤ p.toInt := BitVec.sle_iff_toInt_le.mp ((ofBool_eq_one_iff _).mp ha)
  have hb' : p.toInt < (512#32).toInt := BitVec.slt_iff_toInt_lt.mp ((ofBool_eq_one_iff _).mp hb)
  have e0 : (0#32).toInt = 0 := by decide
  have e5 : (512#32).toInt = 512 := by decide
  rw [e0] at ha'
  rw [e5] at hb'
  rw [BitVec.toInt_eq_toNat_cond] at ha' hb'
  have := p.isLt
  split at hb' <;> omega

end

end Cert.Attn
-- ==== Proof.Value.lean ====
/-
  The value claim: from matching arguments the kernel and the reference end with one result.
-/
module

public import proofs.«01_k».proof.Proof.Agree
public import proofs.«01_k».proof.Proof.Precondition
public import proofs.«01_k».proof.Proof.Result

@[expose] public section

noncomputable section

namespace Cert.Proof

open Idealize.ShloMosaic Idealize.SL.Sem Cert.Attn

attribute [local instance] pre_facts_kernel pre_facts_reference

/-- Row `t` of block `c` is row `pool c t` of the whole. -/
theorem block_row {α : Type} (c : Fin 4) (v : (⟨2, ![8192, 1024]⟩ : Shape).Idx → α) (t : Fin 2048) (j : Fin 1024) :
    Layout.block ⟨2, ![2048, 1024]⟩ ⟨2, ![8192, 1024]⟩ 0 4 c v (by decide) (ix2 t j) = v (ix2 (pool c t) j) := by
  refine congrArg v (funext fun a => Fin.ext ?_)
  rw [Layout.Tiles.idx_val]
  match a with
  | ⟨0, _⟩ => exact congrArg (· + t.val) (Nat.mul_comm c.val 2048)
  | ⟨1, _⟩ => rfl

/-- Every device ends with the reference's result: `agree`, its hypotheses read from the matching arguments and from
    the precondition. -/
theorem value_claim : Cert.algebraic_KernelIdeal_ReferenceIdeal_pre_softmax_defined_KernelIdeal := by
  intro m g m' g' hpre hargs
  refine ⟨Cert.ReferenceIdeal.Value.res_out0 m' 0, ?_, ?_⟩
  · refine (θ_run Cert.KernelIdeal.defs _ _).mono (fun r h c => ⟨(h.1 c).1.trans ?_, (h.1 c).2⟩)
      (Cert.KernelIdeal.Attn.run_values (F := Ideal) m g)
    funext y
    obtain ⟨b, z, h, d, rfl⟩ : ∃ (b : Fin 16) (z : Fin 1) (h : Fin 16) (d : Fin 64), y = ix4 b z h d :=
      ⟨y 0, y 1, y 2, y 3, by funext a; fin_cases a <;> rfl⟩
    obtain rfl : z = 0 := Subsingleton.elim _ _
    refine Eq.trans ?_ (congrFun (Cert.ReferenceIdeal.Attn.result_eq m' 0) (ix4 b 0 h d)).symm
    refine agree m _ _ _ _ _ ?_ ?_ ?_ ?_ ?_ ?_ ?_ b ?_ ?_ c h d
    · exact fun c b j => congrFun (hargs c).1 (ix2 b j)
    · exact fun c t j => (congrFun (hargs c).2.1 (ix2 t j)).trans (block_row c _ t j)
    · exact fun c t j => (congrFun (hargs c).2.2.1 (ix2 t j)).trans (block_row c _ t j)
    · exact fun c => (hargs c).2.2.2.1
    · exact fun c => (hargs c).2.2.2.2
    · intro b j
      obtain ⟨r, hr⟩ := pre_q _ _ _ _ _ b j (hpre c).1
      exact ⟨r, (congrFun (hargs c).1 (ix2 b j)).symm.trans hr⟩
    · intro z t j
      obtain ⟨r, hr⟩ := pre_k _ _ _ _ _ t j (hpre z).2.1
      exact ⟨r, ((congrFun (hargs z).2.1 (ix2 t j)).trans (block_row z _ t j)).symm.trans hr⟩
    · intro j hj
      have e3 := (hargs c).2.2.2.1
      have e4 := (hargs c).2.2.2.2
      rw [← e4] at hj
      rw [← e3]
      exact pre_page _ _ _ _ _ b (hpre c).2.2.2 j hj
    · have e4 := (hargs c).2.2.2.2
      rw [← e4]
      exact pre_len _ _ _ _ _ b (hpre c).2.2.1
  · exact (θ_run Cert.ReferenceIdeal.defs _ _).mono (fun r h => h 0) (Cert.ReferenceIdeal.Value.run (F := Ideal) m' g')

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Attn.pre_facts_kernel, Cert.Attn.pre_facts_reference,
  frame_kernel, frame_kernelIdeal, fun m g _ => frame_kernelIdeal m g trivial,
  frame_reference, fun m g _ => frame_reference m g trivial, trivial, value_claim⟩

end Cert.Proof

end
